-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_window [hPre_window : Cert.Pre_window.Facts] (m : (ℓ : Loc Cert.KernelIdeal.nD Cert.KernelIdeal.τ Cert.KernelIdeal.sig) → Buf (Elt Ideal) ℓ) : Prop :=
  ∀ c : Dev Cert.KernelIdeal.nD,
    (Cert.Pre_window.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_window [hPre_window : Cert.Pre_window.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_window.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_window [hKernelIdeal : Cert.KernelIdeal.Facts] [hPre_window : Cert.Pre_window.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_window m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_window [hReferenceIdeal : Cert.ReferenceIdeal.Facts] [hPre_window : Cert.Pre_window.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_window m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_window [hKernelIdeal : Cert.KernelIdeal.Facts] [hReferenceIdeal : Cert.ReferenceIdeal.Facts] [hPre_window : Cert.Pre_window.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_window m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_window : Cert.Pre_window.Facts),
    quiescent_Kernel (hKernel := hKernel)
    ∧ quiescent_KernelIdeal (hKernelIdeal := hKernelIdeal)
    ∧ quiescent_KernelIdeal_pre_window (hKernelIdeal := hKernelIdeal) (hPre_window := hPre_window)
    ∧ quiescent_ReferenceIdeal (hReferenceIdeal := hReferenceIdeal)
    ∧ quiescent_ReferenceIdeal_pre_window (hReferenceIdeal := hReferenceIdeal) (hPre_window := hPre_window)
    ∧ preserves_Kernel_KernelIdeal
    ∧ algebraic_KernelIdeal_ReferenceIdeal_pre_window (hKernelIdeal := hKernelIdeal) (hReferenceIdeal := hReferenceIdeal) (hPre_window := hPre_window)
-- ==== Pre_window.lean ====
abbrev S642x2048 : Shape := ⟨2, ![642, 2048]⟩
abbrev S162x7 : Shape := ⟨2, ![162, 7]⟩
abbrev S_ : Shape := ⟨0, ![]⟩

class Facts : Prop where
  bcast_S_S162x7 : S_.BroadcastsInDim S162x7 (![] : Fin 0 → Fin S162x7.rank)
  reducesTo_S162x7_S_d0_1 : S162x7.ReducesTo [0, 1] S_
  h_S_ : 0 < S_.numel

variable [Facts]

def fn {F : FTy → Type} [FloatOps F] (main_arg0 : FVec F S642x2048 .f32) (main_arg1 : IVec S162x7 32) : IVec S_ 1 :=
  let main_v0 : IVec S162x7 32 := iotaInDim S162x7 32 0
  let main_v1 : IVec S162x7 32 := iotaInDim S162x7 32 1
  let main_v2 : IVec S162x7 32 := addi main_v0 main_v1
  let main_c : IVec S_ 32 := constantI S_ 32 161#32
  let main_v3 : IVec S162x7 32 := broadcastInDim S162x7 ![] bcast_S_S162x7 main_c
  let main_v4 : IVec S162x7 32 := minsi main_v2 main_v3
  let main_v5 : IVec S162x7 1 := cmpi .eq main_arg1 main_v4
  let main_c_0 : IVec S_ 1 := constantI S_ 1 1#1
  let main_v6 : IVec S_ 1 := (fun x v => Host.reduce IntOp.andi x v reducesTo_S162x7_S_d0_1 h_S_) main_v5 main_c_0
  main_v6
-- ==== Kernel.lean ====
abbrev S642x2048 : Shape := ⟨2, ![642, 2048]⟩
abbrev S162x7 : Shape := ⟨2, ![162, 7]⟩
abbrev S168x2048 : Shape := ⟨2, ![168, 2048]⟩
abbrev S168x128 : Shape := ⟨2, ![168, 128]⟩
abbrev S_ : Shape := ⟨0, ![]⟩
abbrev S72x128 : Shape := ⟨2, ![72, 128]⟩
abbrev S96x128 : Shape := ⟨2, ![96, 128]⟩
abbrev S1x16 : Shape := ⟨2, ![1, 16]⟩
abbrev S16 : Shape := ⟨1, ![16]⟩
abbrev S64x128 : Shape := ⟨2, ![64, 128]⟩
abbrev S104x128 : Shape := ⟨2, ![104, 128]⟩
abbrev S162x2048 : Shape := ⟨2, ![162, 2048]⟩

abbrev nBuf : Table → Nat
  | .hbm => 4
  | .local .scVector .vmem => 2
  | _ => 0

abbrev bufTy : (tb : Table) → Fin (nBuf tb) → BufTy
  | .hbm, ⟨0, _⟩ => ⟨S642x2048, .f32⟩
  | .hbm, ⟨1, _⟩ => ⟨S162x7, .i32⟩
  | .hbm, ⟨2, _⟩ => ⟨S168x2048, .f32⟩
  | .hbm, ⟨3, _⟩ => ⟨S162x2048, .f32⟩
  | .local .scVector .vmem, ⟨0, _⟩ => ⟨S168x128, .f32⟩
  | .local .scVector .vmem, ⟨1, _⟩ => ⟨S168x128, .f32⟩
  | _, _ => ⟨S642x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 2 → Nat :=
  let c0_i32_1 : BitVec 32 := 0#32
  let arg1 : BitVec 32 := BitVec.ofNat 32 (i 1).val
  let c128_i32 : BitVec 32 := 128#32
  let v0 : BitVec 32 := Scalar.muli arg1 c128_i32
  ![0, v0.toNat]
def k0_off2 (i : grid0.Coords) : Fin 2 → Nat :=
  let c72_i32_6 : BitVec 32 := 72#32
  let arg1 : BitVec 32 := BitVec.ofNat 32 (i 1).val
  let c128_i32 : BitVec 32 := 128#32
  let v0 : BitVec 32 := Scalar.muli arg1 c128_i32
  ![72, v0.toNat]
@[reducible] def k0_t1_loop : Scf.Loop 32 :=
  let c0_i32_17 : BitVec 32 := 0#32
  let c8_i32 : BitVec 32 := 8#32
  let v13 : BitVec 32 := Scalar.addi c0_i32_17 c8_i32
  let c1_i32 : BitVec 32 := 1#32
  ⟨c0_i32_17, v13, c1_i32⟩
def k0_off3 (k0_t1 : Fin k0_t1_loop.trips) : Fin 2 → Nat :=
  let c0_i32_53 : BitVec 32 := 0#32
  let v36 : Index := Scalar.indexCast c0_i32_53
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v37 : Index := Scalar.indexCast v35
  ![0, v37.toNat]
def k0_off4 (k0_t1 : Fin k0_t1_loop.trips) : Fin 2 → Nat :=
  let c1_i32_54 : BitVec 32 := 1#32
  let v40 : Index := Scalar.indexCast c1_i32_54
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v41 : Index := Scalar.indexCast v35
  ![1, v41.toNat]
def k0_off5 (k0_t1 : Fin k0_t1_loop.trips) : Fin 2 → Nat :=
  let c2_i32 : BitVec 32 := 2#32
  let v44 : Index := Scalar.indexCast c2_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v45 : Index := Scalar.indexCast v35
  ![2, v45.toNat]
def k0_off6 (k0_t1 : Fin k0_t1_loop.trips) : Fin 2 → Nat :=
  let c3_i32 : BitVec 32 := 3#32
  let v48 : Index := Scalar.indexCast c3_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v49 : Index := Scalar.indexCast v35
  ![3, v49.toNat]
def k0_off7 (k0_t1 : Fin k0_t1_loop.trips) : Fin 2 → Nat :=
  let c4_i32 : BitVec 32 := 4#32
  let v52 : Index := Scalar.indexCast c4_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v53 : Index := Scalar.indexCast v35
  ![4, v53.toNat]
def k0_off8 (k0_t1 : Fin k0_t1_loop.trips) : Fin 2 → Nat :=
  let c5_i32 : BitVec 32 := 5#32
  let v56 : Index := Scalar.indexCast c5_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v57 : Index := Scalar.indexCast v35
  ![5, v57.toNat]
def k0_off9 (k0_t1 : Fin k0_t1_loop.trips) : Fin 2 → Nat :=
  let c6_i32 : BitVec 32 := 6#32
  let v60 : Index := Scalar.indexCast c6_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v61 : Index := Scalar.indexCast v35
  ![6, v61.toNat]
def k0_off10 (k0_t1 : Fin k0_t1_loop.trips) : Fin 2 → Nat :=
  let c7_i32 : BitVec 32 := 7#32
  let v64 : Index := Scalar.indexCast c7_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v65 : Index := Scalar.indexCast v35
  ![7, v65.toNat]
def k0_off11 (k0_t1 : Fin k0_t1_loop.trips) : Fin 2 → Nat :=
  let c8_i32_55 : BitVec 32 := 8#32
  let v68 : Index := Scalar.indexCast c8_i32_55
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v69 : Index := Scalar.indexCast v35
  ![8, v69.toNat]
def k0_off12 (k0_t1 : Fin k0_t1_loop.trips) : Fin 2 → Nat :=
  let c9_i32 : BitVec 32 := 9#32
  let v72 : Index := Scalar.indexCast c9_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v73 : Index := Scalar.indexCast v35
  ![9, v73.toNat]
def k0_off13 (k0_t1 : Fin k0_t1_loop.trips) : Fin 2 → Nat :=
  let c10_i32 : BitVec 32 := 10#32
  let v76 : Index := Scalar.indexCast c10_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v77 : Index := Scalar.indexCast v35
  ![10, v77.toNat]
def k0_off14 (k0_t1 : Fin k0_t1_loop.trips) : Fin 2 → Nat :=
  let c11_i32 : BitVec 32 := 11#32
  let v80 : Index := Scalar.indexCast c11_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v81 : Index := Scalar.indexCast v35
  ![11, v81.toNat]
def k0_off15 (k0_t1 : Fin k0_t1_loop.trips) : Fin 2 → Nat :=
  let c12_i32 : BitVec 32 := 12#32
  let v84 : Index := Scalar.indexCast c12_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v85 : Index := Scalar.indexCast v35
  ![12, v85.toNat]
def k0_off16 (k0_t1 : Fin k0_t1_loop.trips) : Fin 2 → Nat :=
  let c13_i32 : BitVec 32 := 13#32
  let v88 : Index := Scalar.indexCast c13_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v89 : Index := Scalar.indexCast v35
  ![13, v89.toNat]
def k0_off17 (k0_t1 : Fin k0_t1_loop.trips) : Fin 2 → Nat :=
  let c14_i32 : BitVec 32 := 14#32
  let v92 : Index := Scalar.indexCast c14_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v93 : Index := Scalar.indexCast v35
  ![14, v93.toNat]
def k0_off18 (k0_t1 : Fin k0_t1_loop.trips) : Fin 2 → Nat :=
  let c15_i32 : BitVec 32 := 15#32
  let v96 : Index := Scalar.indexCast c15_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v97 : Index := Scalar.indexCast v35
  ![15, v97.toNat]
def k0_off19 (k0_t1 : Fin k0_t1_loop.trips) : Fin 2 → Nat :=
  let c16_i32_56 : BitVec 32 := 16#32
  let v100 : Index := Scalar.indexCast c16_i32_56
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v101 : Index := Scalar.indexCast v35
  ![16, v101.toNat]
def k0_off20 (k0_t1 : Fin k0_t1_loop.trips) : Fin 2 → Nat :=
  let c17_i32 : BitVec 32 := 17#32
  let v104 : Index := Scalar.indexCast c17_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v105 : Index := Scalar.indexCast v35
  ![17, v105.toNat]
def k0_off21 (k0_t1 : Fin k0_t1_loop.trips) : Fin 2 → Nat :=
  let c18_i32 : BitVec 32 := 18#32
  let v108 : Index := Scalar.indexCast c18_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v109 : Index := Scalar.indexCast v35
  ![18, v109.toNat]
def k0_off22 (k0_t1 : Fin k0_t1_loop.trips) : Fin 2 → Nat :=
  let c19_i32 : BitVec 32 := 19#32
  let v112 : Index := Scalar.indexCast c19_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v113 : Index := Scalar.indexCast v35
  ![19, v113.toNat]
def k0_off23 (k0_t1 : Fin k0_t1_loop.trips) : Fin 2 → Nat :=
  let c20_i32 : BitVec 32 := 20#32
  let v116 : Index := Scalar.indexCast c20_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v117 : Index := Scalar.indexCast v35
  ![20, v117.toNat]
def k0_off24 (k0_t1 : Fin k0_t1_loop.trips) : Fin 2 → Nat :=
  let c21_i32 : BitVec 32 := 21#32
  let v120 : Index := Scalar.indexCast c21_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v121 : Index := Scalar.indexCast v35
  ![21, v121.toNat]
def k0_off25 (k0_t1 : Fin k0_t1_loop.trips) : Fin 2 → Nat :=
  let c22_i32 : BitVec 32 := 22#32
  let v124 : Index := Scalar.indexCast c22_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v125 : Index := Scalar.indexCast v35
  ![22, v125.toNat]
def k0_off26 (k0_t1 : Fin k0_t1_loop.trips) : Fin 2 → Nat :=
  let c23_i32 : BitVec 32 := 23#32
  let v128 : Index := Scalar.indexCast c23_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v129 : Index := Scalar.indexCast v35
  ![23, v129.toNat]
def k0_off27 (k0_t1 : Fin k0_t1_loop.trips) : Fin 2 → Nat :=
  let c24_i32 : BitVec 32 := 24#32
  let v132 : Index := Scalar.indexCast c24_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v133 : Index := Scalar.indexCast v35
  ![24, v133.toNat]
def k0_off28 (k0_t1 : Fin k0_t1_loop.trips) : Fin 2 → Nat :=
  let c25_i32 : BitVec 32 := 25#32
  let v136 : Index := Scalar.indexCast c25_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v137 : Index := Scalar.indexCast v35
  ![25, v137.toNat]
def k0_off29 (k0_t1 : Fin k0_t1_loop.trips) : Fin 2 → Nat :=
  let c26_i32 : BitVec 32 := 26#32
  let v140 : Index := Scalar.indexCast c26_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v141 : Index := Scalar.indexCast v35
  ![26, v141.toNat]
def k0_off30 (k0_t1 : Fin k0_t1_loop.trips) : Fin 2 → Nat :=
  let c27_i32 : BitVec 32 := 27#32
  let v144 : Index := Scalar.indexCast c27_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v145 : Index := Scalar.indexCast v35
  ![27, v145.toNat]
def k0_off31 (k0_t1 : Fin k0_t1_loop.trips) : Fin 2 → Nat :=
  let c28_i32 : BitVec 32 := 28#32
  let v148 : Index := Scalar.indexCast c28_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v149 : Index := Scalar.indexCast v35
  ![28, v149.toNat]
def k0_off32 (k0_t1 : Fin k0_t1_loop.trips) : Fin 2 → Nat :=
  let c29_i32 : BitVec 32 := 29#32
  let v152 : Index := Scalar.indexCast c29_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v153 : Index := Scalar.indexCast v35
  ![29, v153.toNat]
def k0_off33 (k0_t1 : Fin k0_t1_loop.trips) : Fin 2 → Nat :=
  let c30_i32 : BitVec 32 := 30#32
  let v156 : Index := Scalar.indexCast c30_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v157 : Index := Scalar.indexCast v35
  ![30, v157.toNat]
def k0_off34 (k0_t1 : Fin k0_t1_loop.trips) : Fin 2 → Nat :=
  let c31_i32 : BitVec 32 := 31#32
  let v160 : Index := Scalar.indexCast c31_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v161 : Index := Scalar.indexCast v35
  ![31, v161.toNat]
def k0_off35 (k0_t1 : Fin k0_t1_loop.trips) : Fin 2 → Nat :=
  let c32_i32 : BitVec 32 := 32#32
  let v164 : Index := Scalar.indexCast c32_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v165 : Index := Scalar.indexCast v35
  ![32, v165.toNat]
def k0_off36 (k0_t1 : Fin k0_t1_loop.trips) : Fin 2 → Nat :=
  let c33_i32 : BitVec 32 := 33#32
  let v168 : Index := Scalar.indexCast c33_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v169 : Index := Scalar.indexCast v35
  ![33, v169.toNat]
def k0_off37 (k0_t1 : Fin k0_t1_loop.trips) : Fin 2 → Nat :=
  let c34_i32 : BitVec 32 := 34#32
  let v172 : Index := Scalar.indexCast c34_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v173 : Index := Scalar.indexCast v35
  ![34, v173.toNat]
def k0_off38 (k0_t1 : Fin k0_t1_loop.trips) : Fin 2 → Nat :=
  let c35_i32 : BitVec 32 := 35#32
  let v176 : Index := Scalar.indexCast c35_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v177 : Index := Scalar.indexCast v35
  ![35, v177.toNat]
def k0_off39 (k0_t1 : Fin k0_t1_loop.trips) : Fin 2 → Nat :=
  let c36_i32 : BitVec 32 := 36#32
  let v180 : Index := Scalar.indexCast c36_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v181 : Index := Scalar.indexCast v35
  ![36, v181.toNat]
def k0_off40 (k0_t1 : Fin k0_t1_loop.trips) : Fin 2 → Nat :=
  let c37_i32 : BitVec 32 := 37#32
  let v184 : Index := Scalar.indexCast c37_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v185 : Index := Scalar.indexCast v35
  ![37, v185.toNat]
def k0_off41 (k0_t1 : Fin k0_t1_loop.trips) : Fin 2 → Nat :=
  let c38_i32 : BitVec 32 := 38#32
  let v188 : Index := Scalar.indexCast c38_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v189 : Index := Scalar.indexCast v35
  ![38, v189.toNat]
def k0_off42 (k0_t1 : Fin k0_t1_loop.trips) : Fin 2 → Nat :=
  let c39_i32 : BitVec 32 := 39#32
  let v192 : Index := Scalar.indexCast c39_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v193 : Index := Scalar.indexCast v35
  ![39, v193.toNat]
def k0_off43 (k0_t1 : Fin k0_t1_loop.trips) : Fin 2 → Nat :=
  let c40_i32 : BitVec 32 := 40#32
  let v196 : Index := Scalar.indexCast c40_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v197 : Index := Scalar.indexCast v35
  ![40, v197.toNat]
def k0_off44 (k0_t1 : Fin k0_t1_loop.trips) : Fin 2 → Nat :=
  let c41_i32 : BitVec 32 := 41#32
  let v200 : Index := Scalar.indexCast c41_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v201 : Index := Scalar.indexCast v35
  ![41, v201.toNat]
def k0_off45 (k0_t1 : Fin k0_t1_loop.trips) : Fin 2 → Nat :=
  let c42_i32 : BitVec 32 := 42#32
  let v204 : Index := Scalar.indexCast c42_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v205 : Index := Scalar.indexCast v35
  ![42, v205.toNat]
def k0_off46 (k0_t1 : Fin k0_t1_loop.trips) : Fin 2 → Nat :=
  let c43_i32 : BitVec 32 := 43#32
  let v208 : Index := Scalar.indexCast c43_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v209 : Index := Scalar.indexCast v35
  ![43, v209.toNat]
def k0_off47 (k0_t1 : Fin k0_t1_loop.trips) : Fin 2 → Nat :=
  let c44_i32 : BitVec 32 := 44#32
  let v212 : Index := Scalar.indexCast c44_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v213 : Index := Scalar.indexCast v35
  ![44, v213.toNat]
def k0_off48 (k0_t1 : Fin k0_t1_loop.trips) : Fin 2 → Nat :=
  let c45_i32 : BitVec 32 := 45#32
  let v216 : Index := Scalar.indexCast c45_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v217 : Index := Scalar.indexCast v35
  ![45, v217.toNat]
def k0_off49 (k0_t1 : Fin k0_t1_loop.trips) : Fin 2 → Nat :=
  let c46_i32 : BitVec 32 := 46#32
  let v220 : Index := Scalar.indexCast c46_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v221 : Index := Scalar.indexCast v35
  ![46, v221.toNat]
def k0_off50 (k0_t1 : Fin k0_t1_loop.trips) : Fin 2 → Nat :=
  let c47_i32 : BitVec 32 := 47#32
  let v224 : Index := Scalar.indexCast c47_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v225 : Index := Scalar.indexCast v35
  ![47, v225.toNat]
def k0_off51 (k0_t1 : Fin k0_t1_loop.trips) : Fin 2 → Nat :=
  let c48_i32 : BitVec 32 := 48#32
  let v228 : Index := Scalar.indexCast c48_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v229 : Index := Scalar.indexCast v35
  ![48, v229.toNat]
def k0_off52 (k0_t1 : Fin k0_t1_loop.trips) : Fin 2 → Nat :=
  let c49_i32 : BitVec 32 := 49#32
  let v232 : Index := Scalar.indexCast c49_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v233 : Index := Scalar.indexCast v35
  ![49, v233.toNat]
def k0_off53 (k0_t1 : Fin k0_t1_loop.trips) : Fin 2 → Nat :=
  let c50_i32 : BitVec 32 := 50#32
  let v236 : Index := Scalar.indexCast c50_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v237 : Index := Scalar.indexCast v35
  ![50, v237.toNat]
def k0_off54 (k0_t1 : Fin k0_t1_loop.trips) : Fin 2 → Nat :=
  let c51_i32 : BitVec 32 := 51#32
  let v240 : Index := Scalar.indexCast c51_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v241 : Index := Scalar.indexCast v35
  ![51, v241.toNat]
def k0_off55 (k0_t1 : Fin k0_t1_loop.trips) : Fin 2 → Nat :=
  let c52_i32 : BitVec 32 := 52#32
  let v244 : Index := Scalar.indexCast c52_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v245 : Index := Scalar.indexCast v35
  ![52, v245.toNat]
def k0_off56 (k0_t1 : Fin k0_t1_loop.trips) : Fin 2 → Nat :=
  let c53_i32 : BitVec 32 := 53#32
  let v248 : Index := Scalar.indexCast c53_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v249 : Index := Scalar.indexCast v35
  ![53, v249.toNat]
def k0_off57 (k0_t1 : Fin k0_t1_loop.trips) : Fin 2 → Nat :=
  let c54_i32 : BitVec 32 := 54#32
  let v252 : Index := Scalar.indexCast c54_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v253 : Index := Scalar.indexCast v35
  ![54, v253.toNat]
def k0_off58 (k0_t1 : Fin k0_t1_loop.trips) : Fin 2 → Nat :=
  let c55_i32 : BitVec 32 := 55#32
  let v256 : Index := Scalar.indexCast c55_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v257 : Index := Scalar.indexCast v35
  ![55, v257.toNat]
def k0_off59 (k0_t1 : Fin k0_t1_loop.trips) : Fin 2 → Nat :=
  let c56_i32 : BitVec 32 := 56#32
  let v260 : Index := Scalar.indexCast c56_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v261 : Index := Scalar.indexCast v35
  ![56, v261.toNat]
def k0_off60 (k0_t1 : Fin k0_t1_loop.trips) : Fin 2 → Nat :=
  let c57_i32 : BitVec 32 := 57#32
  let v264 : Index := Scalar.indexCast c57_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v265 : Index := Scalar.indexCast v35
  ![57, v265.toNat]
def k0_off61 (k0_t1 : Fin k0_t1_loop.trips) : Fin 2 → Nat :=
  let c58_i32 : BitVec 32 := 58#32
  let v268 : Index := Scalar.indexCast c58_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v269 : Index := Scalar.indexCast v35
  ![58, v269.toNat]
def k0_off62 (k0_t1 : Fin k0_t1_loop.trips) : Fin 2 → Nat :=
  let c59_i32 : BitVec 32 := 59#32
  let v272 : Index := Scalar.indexCast c59_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v273 : Index := Scalar.indexCast v35
  ![59, v273.toNat]
def k0_off63 (k0_t1 : Fin k0_t1_loop.trips) : Fin 2 → Nat :=
  let c60_i32 : BitVec 32 := 60#32
  let v276 : Index := Scalar.indexCast c60_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v277 : Index := Scalar.indexCast v35
  ![60, v277.toNat]
def k0_off64 (k0_t1 : Fin k0_t1_loop.trips) : Fin 2 → Nat :=
  let c61_i32 : BitVec 32 := 61#32
  let v280 : Index := Scalar.indexCast c61_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v281 : Index := Scalar.indexCast v35
  ![61, v281.toNat]
def k0_off65 (k0_t1 : Fin k0_t1_loop.trips) : Fin 2 → Nat :=
  let c62_i32 : BitVec 32 := 62#32
  let v284 : Index := Scalar.indexCast c62_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v285 : Index := Scalar.indexCast v35
  ![62, v285.toNat]
def k0_off66 (k0_t1 : Fin k0_t1_loop.trips) : Fin 2 → Nat :=
  let c63_i32 : BitVec 32 := 63#32
  let v288 : Index := Scalar.indexCast c63_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v289 : Index := Scalar.indexCast v35
  ![63, v289.toNat]
def k0_off67 (k0_t1 : Fin k0_t1_loop.trips) : Fin 2 → Nat :=
  let c64_i32_57 : BitVec 32 := 64#32
  let v292 : Index := Scalar.indexCast c64_i32_57
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v293 : Index := Scalar.indexCast v35
  ![64, v293.toNat]
def k0_off68 (k0_t1 : Fin k0_t1_loop.trips) : Fin 2 → Nat :=
  let c65_i32 : BitVec 32 := 65#32
  let v296 : Index := Scalar.indexCast c65_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v297 : Index := Scalar.indexCast v35
  ![65, v297.toNat]
def k0_off69 (k0_t1 : Fin k0_t1_loop.trips) : Fin 2 → Nat :=
  let c66_i32 : BitVec 32 := 66#32
  let v300 : Index := Scalar.indexCast c66_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v301 : Index := Scalar.indexCast v35
  ![66, v301.toNat]
def k0_off70 (k0_t1 : Fin k0_t1_loop.trips) : Fin 2 → Nat :=
  let c67_i32 : BitVec 32 := 67#32
  let v304 : Index := Scalar.indexCast c67_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v305 : Index := Scalar.indexCast v35
  ![67, v305.toNat]
def k0_off71 (k0_t1 : Fin k0_t1_loop.trips) : Fin 2 → Nat :=
  let c68_i32 : BitVec 32 := 68#32
  let v308 : Index := Scalar.indexCast c68_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v309 : Index := Scalar.indexCast v35
  ![68, v309.toNat]
def k0_off72 (k0_t1 : Fin k0_t1_loop.trips) : Fin 2 → Nat :=
  let c69_i32 : BitVec 32 := 69#32
  let v312 : Index := Scalar.indexCast c69_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v313 : Index := Scalar.indexCast v35
  ![69, v313.toNat]
def k0_off73 (k0_t1 : Fin k0_t1_loop.trips) : Fin 2 → Nat :=
  let c70_i32 : BitVec 32 := 70#32
  let v316 : Index := Scalar.indexCast c70_i32
  let c0_i32_17 : BitVec 32 := 0#32
  let c1_i32 : BitVec 32 := 1#32
  let arg10 : BitVec 32 := Scf.iv c0_i32_17 c1_i32 k0_t1
  let c16_i32 : BitVec 32 := 16#32
  let v35 : BitVec 32 := Scalar.muli arg10 c16_i32
  let v317 : Index := Scalar.indexCast v35
  ![70, v317.toNat]
def k0_off74 (i : grid0.Coords) : Fin 2 → Nat :=
  let c0_i32_21 : BitVec 32 := 0#32
  let arg1 : BitVec 32 := BitVec.ofNat 32 (i 1).val
  let c128_i32 : BitVec 32 := 128#32
  let v0 : BitVec 32 := Scalar.muli arg1 c128_i32
  ![0, v0.toNat]
@[reducible] def k0_t2_loop : Scf.Loop 32 :=
  let c0_i32_32 : BitVec 32 := 0#32
  let c8_i32_33 : BitVec 32 := 8#32
  let v22 : BitVec 32 := Scalar.addi c0_i32_32 c8_i32_33
  let c1_i32_34 : BitVec 32 := 1#32
  ⟨c0_i32_32, v22, c1_i32_34⟩
def k0_off75 (k0_t2 : Fin k0_t2_loop.trips) : Fin 2 → Nat :=
  let c64_i32_53 : BitVec 32 := 64#32
  let v36 : Index := Scalar.indexCast c64_i32_53
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v37 : Index := Scalar.indexCast v35
  ![64, v37.toNat]
def k0_off76 (k0_t2 : Fin k0_t2_loop.trips) : Fin 2 → Nat :=
  let c65_i32 : BitVec 32 := 65#32
  let v40 : Index := Scalar.indexCast c65_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v41 : Index := Scalar.indexCast v35
  ![65, v41.toNat]
def k0_off77 (k0_t2 : Fin k0_t2_loop.trips) : Fin 2 → Nat :=
  let c66_i32 : BitVec 32 := 66#32
  let v44 : Index := Scalar.indexCast c66_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v45 : Index := Scalar.indexCast v35
  ![66, v45.toNat]
def k0_off78 (k0_t2 : Fin k0_t2_loop.trips) : Fin 2 → Nat :=
  let c67_i32 : BitVec 32 := 67#32
  let v48 : Index := Scalar.indexCast c67_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v49 : Index := Scalar.indexCast v35
  ![67, v49.toNat]
def k0_off79 (k0_t2 : Fin k0_t2_loop.trips) : Fin 2 → Nat :=
  let c68_i32 : BitVec 32 := 68#32
  let v52 : Index := Scalar.indexCast c68_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v53 : Index := Scalar.indexCast v35
  ![68, v53.toNat]
def k0_off80 (k0_t2 : Fin k0_t2_loop.trips) : Fin 2 → Nat :=
  let c69_i32 : BitVec 32 := 69#32
  let v56 : Index := Scalar.indexCast c69_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v57 : Index := Scalar.indexCast v35
  ![69, v57.toNat]
def k0_off81 (k0_t2 : Fin k0_t2_loop.trips) : Fin 2 → Nat :=
  let c70_i32 : BitVec 32 := 70#32
  let v60 : Index := Scalar.indexCast c70_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v61 : Index := Scalar.indexCast v35
  ![70, v61.toNat]
def k0_off82 (k0_t2 : Fin k0_t2_loop.trips) : Fin 2 → Nat :=
  let c71_i32 : BitVec 32 := 71#32
  let v64 : Index := Scalar.indexCast c71_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v65 : Index := Scalar.indexCast v35
  ![71, v65.toNat]
def k0_off83 (k0_t2 : Fin k0_t2_loop.trips) : Fin 2 → Nat :=
  let c72_i32_54 : BitVec 32 := 72#32
  let v68 : Index := Scalar.indexCast c72_i32_54
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v69 : Index := Scalar.indexCast v35
  ![72, v69.toNat]
def k0_off84 (k0_t2 : Fin k0_t2_loop.trips) : Fin 2 → Nat :=
  let c73_i32 : BitVec 32 := 73#32
  let v72 : Index := Scalar.indexCast c73_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v73 : Index := Scalar.indexCast v35
  ![73, v73.toNat]
def k0_off85 (k0_t2 : Fin k0_t2_loop.trips) : Fin 2 → Nat :=
  let c74_i32 : BitVec 32 := 74#32
  let v76 : Index := Scalar.indexCast c74_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v77 : Index := Scalar.indexCast v35
  ![74, v77.toNat]
def k0_off86 (k0_t2 : Fin k0_t2_loop.trips) : Fin 2 → Nat :=
  let c75_i32 : BitVec 32 := 75#32
  let v80 : Index := Scalar.indexCast c75_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v81 : Index := Scalar.indexCast v35
  ![75, v81.toNat]
def k0_off87 (k0_t2 : Fin k0_t2_loop.trips) : Fin 2 → Nat :=
  let c76_i32 : BitVec 32 := 76#32
  let v84 : Index := Scalar.indexCast c76_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v85 : Index := Scalar.indexCast v35
  ![76, v85.toNat]
def k0_off88 (k0_t2 : Fin k0_t2_loop.trips) : Fin 2 → Nat :=
  let c77_i32 : BitVec 32 := 77#32
  let v88 : Index := Scalar.indexCast c77_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v89 : Index := Scalar.indexCast v35
  ![77, v89.toNat]
def k0_off89 (k0_t2 : Fin k0_t2_loop.trips) : Fin 2 → Nat :=
  let c78_i32 : BitVec 32 := 78#32
  let v92 : Index := Scalar.indexCast c78_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v93 : Index := Scalar.indexCast v35
  ![78, v93.toNat]
def k0_off90 (k0_t2 : Fin k0_t2_loop.trips) : Fin 2 → Nat :=
  let c79_i32 : BitVec 32 := 79#32
  let v96 : Index := Scalar.indexCast c79_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v97 : Index := Scalar.indexCast v35
  ![79, v97.toNat]
def k0_off91 (k0_t2 : Fin k0_t2_loop.trips) : Fin 2 → Nat :=
  let c80_i32 : BitVec 32 := 80#32
  let v100 : Index := Scalar.indexCast c80_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v101 : Index := Scalar.indexCast v35
  ![80, v101.toNat]
def k0_off92 (k0_t2 : Fin k0_t2_loop.trips) : Fin 2 → Nat :=
  let c81_i32 : BitVec 32 := 81#32
  let v104 : Index := Scalar.indexCast c81_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v105 : Index := Scalar.indexCast v35
  ![81, v105.toNat]
def k0_off93 (k0_t2 : Fin k0_t2_loop.trips) : Fin 2 → Nat :=
  let c82_i32 : BitVec 32 := 82#32
  let v108 : Index := Scalar.indexCast c82_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v109 : Index := Scalar.indexCast v35
  ![82, v109.toNat]
def k0_off94 (k0_t2 : Fin k0_t2_loop.trips) : Fin 2 → Nat :=
  let c83_i32 : BitVec 32 := 83#32
  let v112 : Index := Scalar.indexCast c83_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v113 : Index := Scalar.indexCast v35
  ![83, v113.toNat]
def k0_off95 (k0_t2 : Fin k0_t2_loop.trips) : Fin 2 → Nat :=
  let c84_i32 : BitVec 32 := 84#32
  let v116 : Index := Scalar.indexCast c84_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v117 : Index := Scalar.indexCast v35
  ![84, v117.toNat]
def k0_off96 (k0_t2 : Fin k0_t2_loop.trips) : Fin 2 → Nat :=
  let c85_i32 : BitVec 32 := 85#32
  let v120 : Index := Scalar.indexCast c85_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v121 : Index := Scalar.indexCast v35
  ![85, v121.toNat]
def k0_off97 (k0_t2 : Fin k0_t2_loop.trips) : Fin 2 → Nat :=
  let c86_i32 : BitVec 32 := 86#32
  let v124 : Index := Scalar.indexCast c86_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v125 : Index := Scalar.indexCast v35
  ![86, v125.toNat]
def k0_off98 (k0_t2 : Fin k0_t2_loop.trips) : Fin 2 → Nat :=
  let c87_i32 : BitVec 32 := 87#32
  let v128 : Index := Scalar.indexCast c87_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v129 : Index := Scalar.indexCast v35
  ![87, v129.toNat]
def k0_off99 (k0_t2 : Fin k0_t2_loop.trips) : Fin 2 → Nat :=
  let c88_i32 : BitVec 32 := 88#32
  let v132 : Index := Scalar.indexCast c88_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v133 : Index := Scalar.indexCast v35
  ![88, v133.toNat]
def k0_off100 (k0_t2 : Fin k0_t2_loop.trips) : Fin 2 → Nat :=
  let c89_i32 : BitVec 32 := 89#32
  let v136 : Index := Scalar.indexCast c89_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v137 : Index := Scalar.indexCast v35
  ![89, v137.toNat]
def k0_off101 (k0_t2 : Fin k0_t2_loop.trips) : Fin 2 → Nat :=
  let c90_i32 : BitVec 32 := 90#32
  let v140 : Index := Scalar.indexCast c90_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v141 : Index := Scalar.indexCast v35
  ![90, v141.toNat]
def k0_off102 (k0_t2 : Fin k0_t2_loop.trips) : Fin 2 → Nat :=
  let c91_i32 : BitVec 32 := 91#32
  let v144 : Index := Scalar.indexCast c91_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v145 : Index := Scalar.indexCast v35
  ![91, v145.toNat]
def k0_off103 (k0_t2 : Fin k0_t2_loop.trips) : Fin 2 → Nat :=
  let c92_i32 : BitVec 32 := 92#32
  let v148 : Index := Scalar.indexCast c92_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v149 : Index := Scalar.indexCast v35
  ![92, v149.toNat]
def k0_off104 (k0_t2 : Fin k0_t2_loop.trips) : Fin 2 → Nat :=
  let c93_i32 : BitVec 32 := 93#32
  let v152 : Index := Scalar.indexCast c93_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v153 : Index := Scalar.indexCast v35
  ![93, v153.toNat]
def k0_off105 (k0_t2 : Fin k0_t2_loop.trips) : Fin 2 → Nat :=
  let c94_i32 : BitVec 32 := 94#32
  let v156 : Index := Scalar.indexCast c94_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v157 : Index := Scalar.indexCast v35
  ![94, v157.toNat]
def k0_off106 (k0_t2 : Fin k0_t2_loop.trips) : Fin 2 → Nat :=
  let c95_i32 : BitVec 32 := 95#32
  let v160 : Index := Scalar.indexCast c95_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v161 : Index := Scalar.indexCast v35
  ![95, v161.toNat]
def k0_off107 (k0_t2 : Fin k0_t2_loop.trips) : Fin 2 → Nat :=
  let c96_i32 : BitVec 32 := 96#32
  let v164 : Index := Scalar.indexCast c96_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v165 : Index := Scalar.indexCast v35
  ![96, v165.toNat]
def k0_off108 (k0_t2 : Fin k0_t2_loop.trips) : Fin 2 → Nat :=
  let c97_i32 : BitVec 32 := 97#32
  let v168 : Index := Scalar.indexCast c97_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v169 : Index := Scalar.indexCast v35
  ![97, v169.toNat]
def k0_off109 (k0_t2 : Fin k0_t2_loop.trips) : Fin 2 → Nat :=
  let c98_i32 : BitVec 32 := 98#32
  let v172 : Index := Scalar.indexCast c98_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v173 : Index := Scalar.indexCast v35
  ![98, v173.toNat]
def k0_off110 (k0_t2 : Fin k0_t2_loop.trips) : Fin 2 → Nat :=
  let c99_i32 : BitVec 32 := 99#32
  let v176 : Index := Scalar.indexCast c99_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v177 : Index := Scalar.indexCast v35
  ![99, v177.toNat]
def k0_off111 (k0_t2 : Fin k0_t2_loop.trips) : Fin 2 → Nat :=
  let c100_i32 : BitVec 32 := 100#32
  let v180 : Index := Scalar.indexCast c100_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v181 : Index := Scalar.indexCast v35
  ![100, v181.toNat]
def k0_off112 (k0_t2 : Fin k0_t2_loop.trips) : Fin 2 → Nat :=
  let c101_i32 : BitVec 32 := 101#32
  let v184 : Index := Scalar.indexCast c101_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v185 : Index := Scalar.indexCast v35
  ![101, v185.toNat]
def k0_off113 (k0_t2 : Fin k0_t2_loop.trips) : Fin 2 → Nat :=
  let c102_i32 : BitVec 32 := 102#32
  let v188 : Index := Scalar.indexCast c102_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v189 : Index := Scalar.indexCast v35
  ![102, v189.toNat]
def k0_off114 (k0_t2 : Fin k0_t2_loop.trips) : Fin 2 → Nat :=
  let c103_i32 : BitVec 32 := 103#32
  let v192 : Index := Scalar.indexCast c103_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v193 : Index := Scalar.indexCast v35
  ![103, v193.toNat]
def k0_off115 (k0_t2 : Fin k0_t2_loop.trips) : Fin 2 → Nat :=
  let c104_i32 : BitVec 32 := 104#32
  let v196 : Index := Scalar.indexCast c104_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v197 : Index := Scalar.indexCast v35
  ![104, v197.toNat]
def k0_off116 (k0_t2 : Fin k0_t2_loop.trips) : Fin 2 → Nat :=
  let c105_i32 : BitVec 32 := 105#32
  let v200 : Index := Scalar.indexCast c105_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v201 : Index := Scalar.indexCast v35
  ![105, v201.toNat]
def k0_off117 (k0_t2 : Fin k0_t2_loop.trips) : Fin 2 → Nat :=
  let c106_i32 : BitVec 32 := 106#32
  let v204 : Index := Scalar.indexCast c106_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v205 : Index := Scalar.indexCast v35
  ![106, v205.toNat]
def k0_off118 (k0_t2 : Fin k0_t2_loop.trips) : Fin 2 → Nat :=
  let c107_i32 : BitVec 32 := 107#32
  let v208 : Index := Scalar.indexCast c107_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v209 : Index := Scalar.indexCast v35
  ![107, v209.toNat]
def k0_off119 (k0_t2 : Fin k0_t2_loop.trips) : Fin 2 → Nat :=
  let c108_i32 : BitVec 32 := 108#32
  let v212 : Index := Scalar.indexCast c108_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v213 : Index := Scalar.indexCast v35
  ![108, v213.toNat]
def k0_off120 (k0_t2 : Fin k0_t2_loop.trips) : Fin 2 → Nat :=
  let c109_i32 : BitVec 32 := 109#32
  let v216 : Index := Scalar.indexCast c109_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v217 : Index := Scalar.indexCast v35
  ![109, v217.toNat]
def k0_off121 (k0_t2 : Fin k0_t2_loop.trips) : Fin 2 → Nat :=
  let c110_i32 : BitVec 32 := 110#32
  let v220 : Index := Scalar.indexCast c110_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v221 : Index := Scalar.indexCast v35
  ![110, v221.toNat]
def k0_off122 (k0_t2 : Fin k0_t2_loop.trips) : Fin 2 → Nat :=
  let c111_i32 : BitVec 32 := 111#32
  let v224 : Index := Scalar.indexCast c111_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v225 : Index := Scalar.indexCast v35
  ![111, v225.toNat]
def k0_off123 (k0_t2 : Fin k0_t2_loop.trips) : Fin 2 → Nat :=
  let c112_i32 : BitVec 32 := 112#32
  let v228 : Index := Scalar.indexCast c112_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v229 : Index := Scalar.indexCast v35
  ![112, v229.toNat]
def k0_off124 (k0_t2 : Fin k0_t2_loop.trips) : Fin 2 → Nat :=
  let c113_i32 : BitVec 32 := 113#32
  let v232 : Index := Scalar.indexCast c113_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v233 : Index := Scalar.indexCast v35
  ![113, v233.toNat]
def k0_off125 (k0_t2 : Fin k0_t2_loop.trips) : Fin 2 → Nat :=
  let c114_i32 : BitVec 32 := 114#32
  let v236 : Index := Scalar.indexCast c114_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v237 : Index := Scalar.indexCast v35
  ![114, v237.toNat]
def k0_off126 (k0_t2 : Fin k0_t2_loop.trips) : Fin 2 → Nat :=
  let c115_i32 : BitVec 32 := 115#32
  let v240 : Index := Scalar.indexCast c115_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v241 : Index := Scalar.indexCast v35
  ![115, v241.toNat]
def k0_off127 (k0_t2 : Fin k0_t2_loop.trips) : Fin 2 → Nat :=
  let c116_i32 : BitVec 32 := 116#32
  let v244 : Index := Scalar.indexCast c116_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v245 : Index := Scalar.indexCast v35
  ![116, v245.toNat]
def k0_off128 (k0_t2 : Fin k0_t2_loop.trips) : Fin 2 → Nat :=
  let c117_i32 : BitVec 32 := 117#32
  let v248 : Index := Scalar.indexCast c117_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v249 : Index := Scalar.indexCast v35
  ![117, v249.toNat]
def k0_off129 (k0_t2 : Fin k0_t2_loop.trips) : Fin 2 → Nat :=
  let c118_i32 : BitVec 32 := 118#32
  let v252 : Index := Scalar.indexCast c118_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v253 : Index := Scalar.indexCast v35
  ![118, v253.toNat]
def k0_off130 (k0_t2 : Fin k0_t2_loop.trips) : Fin 2 → Nat :=
  let c119_i32 : BitVec 32 := 119#32
  let v256 : Index := Scalar.indexCast c119_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v257 : Index := Scalar.indexCast v35
  ![119, v257.toNat]
def k0_off131 (k0_t2 : Fin k0_t2_loop.trips) : Fin 2 → Nat :=
  let c120_i32 : BitVec 32 := 120#32
  let v260 : Index := Scalar.indexCast c120_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v261 : Index := Scalar.indexCast v35
  ![120, v261.toNat]
def k0_off132 (k0_t2 : Fin k0_t2_loop.trips) : Fin 2 → Nat :=
  let c121_i32 : BitVec 32 := 121#32
  let v264 : Index := Scalar.indexCast c121_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v265 : Index := Scalar.indexCast v35
  ![121, v265.toNat]
def k0_off133 (k0_t2 : Fin k0_t2_loop.trips) : Fin 2 → Nat :=
  let c122_i32 : BitVec 32 := 122#32
  let v268 : Index := Scalar.indexCast c122_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v269 : Index := Scalar.indexCast v35
  ![122, v269.toNat]
def k0_off134 (k0_t2 : Fin k0_t2_loop.trips) : Fin 2 → Nat :=
  let c123_i32 : BitVec 32 := 123#32
  let v272 : Index := Scalar.indexCast c123_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v273 : Index := Scalar.indexCast v35
  ![123, v273.toNat]
def k0_off135 (k0_t2 : Fin k0_t2_loop.trips) : Fin 2 → Nat :=
  let c124_i32 : BitVec 32 := 124#32
  let v276 : Index := Scalar.indexCast c124_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v277 : Index := Scalar.indexCast v35
  ![124, v277.toNat]
def k0_off136 (k0_t2 : Fin k0_t2_loop.trips) : Fin 2 → Nat :=
  let c125_i32 : BitVec 32 := 125#32
  let v280 : Index := Scalar.indexCast c125_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v281 : Index := Scalar.indexCast v35
  ![125, v281.toNat]
def k0_off137 (k0_t2 : Fin k0_t2_loop.trips) : Fin 2 → Nat :=
  let c126_i32 : BitVec 32 := 126#32
  let v284 : Index := Scalar.indexCast c126_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v285 : Index := Scalar.indexCast v35
  ![126, v285.toNat]
def k0_off138 (k0_t2 : Fin k0_t2_loop.trips) : Fin 2 → Nat :=
  let c127_i32 : BitVec 32 := 127#32
  let v288 : Index := Scalar.indexCast c127_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v289 : Index := Scalar.indexCast v35
  ![127, v289.toNat]
def k0_off139 (k0_t2 : Fin k0_t2_loop.trips) : Fin 2 → Nat :=
  let c128_i32_55 : BitVec 32 := 128#32
  let v292 : Index := Scalar.indexCast c128_i32_55
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v293 : Index := Scalar.indexCast v35
  ![128, v293.toNat]
def k0_off140 (k0_t2 : Fin k0_t2_loop.trips) : Fin 2 → Nat :=
  let c129_i32 : BitVec 32 := 129#32
  let v296 : Index := Scalar.indexCast c129_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v297 : Index := Scalar.indexCast v35
  ![129, v297.toNat]
def k0_off141 (k0_t2 : Fin k0_t2_loop.trips) : Fin 2 → Nat :=
  let c130_i32 : BitVec 32 := 130#32
  let v300 : Index := Scalar.indexCast c130_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v301 : Index := Scalar.indexCast v35
  ![130, v301.toNat]
def k0_off142 (k0_t2 : Fin k0_t2_loop.trips) : Fin 2 → Nat :=
  let c131_i32 : BitVec 32 := 131#32
  let v304 : Index := Scalar.indexCast c131_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v305 : Index := Scalar.indexCast v35
  ![131, v305.toNat]
def k0_off143 (k0_t2 : Fin k0_t2_loop.trips) : Fin 2 → Nat :=
  let c132_i32 : BitVec 32 := 132#32
  let v308 : Index := Scalar.indexCast c132_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v309 : Index := Scalar.indexCast v35
  ![132, v309.toNat]
def k0_off144 (k0_t2 : Fin k0_t2_loop.trips) : Fin 2 → Nat :=
  let c133_i32 : BitVec 32 := 133#32
  let v312 : Index := Scalar.indexCast c133_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v313 : Index := Scalar.indexCast v35
  ![133, v313.toNat]
def k0_off145 (k0_t2 : Fin k0_t2_loop.trips) : Fin 2 → Nat :=
  let c134_i32 : BitVec 32 := 134#32
  let v316 : Index := Scalar.indexCast c134_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v317 : Index := Scalar.indexCast v35
  ![134, v317.toNat]
def k0_off146 (k0_t2 : Fin k0_t2_loop.trips) : Fin 2 → Nat :=
  let c135_i32 : BitVec 32 := 135#32
  let v320 : Index := Scalar.indexCast c135_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v321 : Index := Scalar.indexCast v35
  ![135, v321.toNat]
def k0_off147 (k0_t2 : Fin k0_t2_loop.trips) : Fin 2 → Nat :=
  let c136_i32 : BitVec 32 := 136#32
  let v324 : Index := Scalar.indexCast c136_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v325 : Index := Scalar.indexCast v35
  ![136, v325.toNat]
def k0_off148 (k0_t2 : Fin k0_t2_loop.trips) : Fin 2 → Nat :=
  let c137_i32 : BitVec 32 := 137#32
  let v328 : Index := Scalar.indexCast c137_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v329 : Index := Scalar.indexCast v35
  ![137, v329.toNat]
def k0_off149 (k0_t2 : Fin k0_t2_loop.trips) : Fin 2 → Nat :=
  let c138_i32 : BitVec 32 := 138#32
  let v332 : Index := Scalar.indexCast c138_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v333 : Index := Scalar.indexCast v35
  ![138, v333.toNat]
def k0_off150 (k0_t2 : Fin k0_t2_loop.trips) : Fin 2 → Nat :=
  let c139_i32 : BitVec 32 := 139#32
  let v336 : Index := Scalar.indexCast c139_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v337 : Index := Scalar.indexCast v35
  ![139, v337.toNat]
def k0_off151 (k0_t2 : Fin k0_t2_loop.trips) : Fin 2 → Nat :=
  let c140_i32 : BitVec 32 := 140#32
  let v340 : Index := Scalar.indexCast c140_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v341 : Index := Scalar.indexCast v35
  ![140, v341.toNat]
def k0_off152 (k0_t2 : Fin k0_t2_loop.trips) : Fin 2 → Nat :=
  let c141_i32 : BitVec 32 := 141#32
  let v344 : Index := Scalar.indexCast c141_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v345 : Index := Scalar.indexCast v35
  ![141, v345.toNat]
def k0_off153 (k0_t2 : Fin k0_t2_loop.trips) : Fin 2 → Nat :=
  let c142_i32 : BitVec 32 := 142#32
  let v348 : Index := Scalar.indexCast c142_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v349 : Index := Scalar.indexCast v35
  ![142, v349.toNat]
def k0_off154 (k0_t2 : Fin k0_t2_loop.trips) : Fin 2 → Nat :=
  let c143_i32 : BitVec 32 := 143#32
  let v352 : Index := Scalar.indexCast c143_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v353 : Index := Scalar.indexCast v35
  ![143, v353.toNat]
def k0_off155 (k0_t2 : Fin k0_t2_loop.trips) : Fin 2 → Nat :=
  let c144_i32 : BitVec 32 := 144#32
  let v356 : Index := Scalar.indexCast c144_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v357 : Index := Scalar.indexCast v35
  ![144, v357.toNat]
def k0_off156 (k0_t2 : Fin k0_t2_loop.trips) : Fin 2 → Nat :=
  let c145_i32 : BitVec 32 := 145#32
  let v360 : Index := Scalar.indexCast c145_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v361 : Index := Scalar.indexCast v35
  ![145, v361.toNat]
def k0_off157 (k0_t2 : Fin k0_t2_loop.trips) : Fin 2 → Nat :=
  let c146_i32 : BitVec 32 := 146#32
  let v364 : Index := Scalar.indexCast c146_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v365 : Index := Scalar.indexCast v35
  ![146, v365.toNat]
def k0_off158 (k0_t2 : Fin k0_t2_loop.trips) : Fin 2 → Nat :=
  let c147_i32 : BitVec 32 := 147#32
  let v368 : Index := Scalar.indexCast c147_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v369 : Index := Scalar.indexCast v35
  ![147, v369.toNat]
def k0_off159 (k0_t2 : Fin k0_t2_loop.trips) : Fin 2 → Nat :=
  let c148_i32 : BitVec 32 := 148#32
  let v372 : Index := Scalar.indexCast c148_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v373 : Index := Scalar.indexCast v35
  ![148, v373.toNat]
def k0_off160 (k0_t2 : Fin k0_t2_loop.trips) : Fin 2 → Nat :=
  let c149_i32 : BitVec 32 := 149#32
  let v376 : Index := Scalar.indexCast c149_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v377 : Index := Scalar.indexCast v35
  ![149, v377.toNat]
def k0_off161 (k0_t2 : Fin k0_t2_loop.trips) : Fin 2 → Nat :=
  let c150_i32 : BitVec 32 := 150#32
  let v380 : Index := Scalar.indexCast c150_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v381 : Index := Scalar.indexCast v35
  ![150, v381.toNat]
def k0_off162 (k0_t2 : Fin k0_t2_loop.trips) : Fin 2 → Nat :=
  let c151_i32 : BitVec 32 := 151#32
  let v384 : Index := Scalar.indexCast c151_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v385 : Index := Scalar.indexCast v35
  ![151, v385.toNat]
def k0_off163 (k0_t2 : Fin k0_t2_loop.trips) : Fin 2 → Nat :=
  let c152_i32 : BitVec 32 := 152#32
  let v388 : Index := Scalar.indexCast c152_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v389 : Index := Scalar.indexCast v35
  ![152, v389.toNat]
def k0_off164 (k0_t2 : Fin k0_t2_loop.trips) : Fin 2 → Nat :=
  let c153_i32 : BitVec 32 := 153#32
  let v392 : Index := Scalar.indexCast c153_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v393 : Index := Scalar.indexCast v35
  ![153, v393.toNat]
def k0_off165 (k0_t2 : Fin k0_t2_loop.trips) : Fin 2 → Nat :=
  let c154_i32 : BitVec 32 := 154#32
  let v396 : Index := Scalar.indexCast c154_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v397 : Index := Scalar.indexCast v35
  ![154, v397.toNat]
def k0_off166 (k0_t2 : Fin k0_t2_loop.trips) : Fin 2 → Nat :=
  let c155_i32 : BitVec 32 := 155#32
  let v400 : Index := Scalar.indexCast c155_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v401 : Index := Scalar.indexCast v35
  ![155, v401.toNat]
def k0_off167 (k0_t2 : Fin k0_t2_loop.trips) : Fin 2 → Nat :=
  let c156_i32 : BitVec 32 := 156#32
  let v404 : Index := Scalar.indexCast c156_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v405 : Index := Scalar.indexCast v35
  ![156, v405.toNat]
def k0_off168 (k0_t2 : Fin k0_t2_loop.trips) : Fin 2 → Nat :=
  let c157_i32 : BitVec 32 := 157#32
  let v408 : Index := Scalar.indexCast c157_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v409 : Index := Scalar.indexCast v35
  ![157, v409.toNat]
def k0_off169 (k0_t2 : Fin k0_t2_loop.trips) : Fin 2 → Nat :=
  let c158_i32 : BitVec 32 := 158#32
  let v412 : Index := Scalar.indexCast c158_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v413 : Index := Scalar.indexCast v35
  ![158, v413.toNat]
def k0_off170 (k0_t2 : Fin k0_t2_loop.trips) : Fin 2 → Nat :=
  let c159_i32 : BitVec 32 := 159#32
  let v416 : Index := Scalar.indexCast c159_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v417 : Index := Scalar.indexCast v35
  ![159, v417.toNat]
def k0_off171 (k0_t2 : Fin k0_t2_loop.trips) : Fin 2 → Nat :=
  let c160_i32 : BitVec 32 := 160#32
  let v420 : Index := Scalar.indexCast c160_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v421 : Index := Scalar.indexCast v35
  ![160, v421.toNat]
def k0_off172 (k0_t2 : Fin k0_t2_loop.trips) : Fin 2 → Nat :=
  let c161_i32 : BitVec 32 := 161#32
  let v424 : Index := Scalar.indexCast c161_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v425 : Index := Scalar.indexCast v35
  ![161, v425.toNat]
def k0_off173 (k0_t2 : Fin k0_t2_loop.trips) : Fin 2 → Nat :=
  let c162_i32 : BitVec 32 := 162#32
  let v428 : Index := Scalar.indexCast c162_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v429 : Index := Scalar.indexCast v35
  ![162, v429.toNat]
def k0_off174 (k0_t2 : Fin k0_t2_loop.trips) : Fin 2 → Nat :=
  let c163_i32 : BitVec 32 := 163#32
  let v432 : Index := Scalar.indexCast c163_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v433 : Index := Scalar.indexCast v35
  ![163, v433.toNat]
def k0_off175 (k0_t2 : Fin k0_t2_loop.trips) : Fin 2 → Nat :=
  let c164_i32 : BitVec 32 := 164#32
  let v436 : Index := Scalar.indexCast c164_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v437 : Index := Scalar.indexCast v35
  ![164, v437.toNat]
def k0_off176 (k0_t2 : Fin k0_t2_loop.trips) : Fin 2 → Nat :=
  let c165_i32 : BitVec 32 := 165#32
  let v440 : Index := Scalar.indexCast c165_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v441 : Index := Scalar.indexCast v35
  ![165, v441.toNat]
def k0_off177 (k0_t2 : Fin k0_t2_loop.trips) : Fin 2 → Nat :=
  let c166_i32 : BitVec 32 := 166#32
  let v444 : Index := Scalar.indexCast c166_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v445 : Index := Scalar.indexCast v35
  ![166, v445.toNat]
def k0_off178 (k0_t2 : Fin k0_t2_loop.trips) : Fin 2 → Nat :=
  let c167_i32 : BitVec 32 := 167#32
  let v448 : Index := Scalar.indexCast c167_i32
  let c0_i32_32 : BitVec 32 := 0#32
  let c1_i32_34 : BitVec 32 := 1#32
  let arg10 : BitVec 32 := Scf.iv c0_i32_32 c1_i32_34 k0_t2
  let c16_i32 : BitVec 32 := 16#32
  let v35 : BitVec 32 := Scalar.muli arg10 c16_i32
  let v449 : Index := Scalar.indexCast v35
  ![167, v449.toNat]
def k0_off179 (i : grid0.Coords) : Fin 2 → Nat :=
  let c64_i32_37 : BitVec 32 := 64#32
  let arg1 : BitVec 32 := BitVec.ofNat 32 (i 1).val
  let c128_i32 : BitVec 32 := 128#32
  let v0 : BitVec 32 := Scalar.muli arg1 c128_i32
  ![64, v0.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S642x2048 : Shape := ⟨2, ![642, 2048]⟩
abbrev S162x7 : Shape := ⟨2, ![162, 7]⟩
abbrev S162x2048 : Shape := ⟨2, ![162, 2048]⟩
abbrev S_ : Shape := ⟨0, ![]⟩
abbrev S162x7x1 : Shape := ⟨3, ![162, 7, 1]⟩
abbrev S162x7x2048 : Shape := ⟨3, ![162, 7, 2048]⟩

abbrev nBuf : Space → Nat
  | .hbm => 14
  | .vmem => 0
  | .smem => 0
  | _ => 0

abbrev bufTy : (tb : Table) → Fin (tcTables nBuf tb) → BufTy
  | .hbm, ⟨0, _⟩ => ⟨S642x2048, .f32⟩
  | .hbm, ⟨1, _⟩ => ⟨S162x7, .i32⟩
  | .hbm, ⟨2, _⟩ => ⟨S162x2048, .f32⟩
  | .hbm, ⟨3, _⟩ => ⟨S_, .i32⟩
  | .hbm, ⟨4, _⟩ => ⟨S162x7, .i32⟩
  | .hbm, ⟨5, _⟩ => ⟨S162x7, .i1⟩
  | .hbm, ⟨6, _⟩ => ⟨S_, .i32⟩
  | .hbm, ⟨7, _⟩ => ⟨S162x7, .i32⟩
  | .hbm, ⟨8, _⟩ => ⟨S162x7, .i32⟩
  | .hbm, ⟨9, _⟩ => ⟨S162x7, .i32⟩
  | .hbm, ⟨10, _⟩ => ⟨S162x7x1, .i32⟩
  | .hbm, ⟨11, _⟩ => ⟨S162x7x2048, .f32⟩
  | .hbm, ⟨12, _⟩ => ⟨S_, .f32⟩
  | .hbm, ⟨13, _⟩ => ⟨S162x2048, .f32⟩
  | _, _ => ⟨S642x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.Pool.lean ====
/-
  What the kernel computes, as mathematics, for any carrier of values and any binary maximum on it: row `k` of the result is the
  maximum of rows `k … k + 6` of the input, taken in the order of the kernel's tree; the last six rows (whose windows are cut at
  row 161) are suffix maxima, and the padding rows repeat the last of these. Stated once for a row of sixteen lanes (the kernel's
  vectors) and once for single elements, with the lemma that the two agree lane by lane.
-/
module

public import proofs.«01_k».proof.Proof.Gen.KernelIdeal
public import Idealize.ShloMosaic.Lib.Pipeline.Value
public import Idealize.ShloMosaic.Lib.Exec

@[expose] public section

noncomputable section

namespace Cert.Proof.Hex

open Cert.KernelIdeal Cert.KernelIdeal.Gen
open Idealize.ShloMosaic
open Idealize.ShloMosaic.Tactic

/-! ## The pooled rows over any carrier -/

section Carrier

variable {α : Type} (mx : α → α → α) (r : ℕ → α)

/-- The maximum of the seven rows from `k` on, in the kernel's order: pairs, pairs of pairs, two overlapping quadruples. -/
def winMax (k : ℕ) : α :=
  mx (mx (mx (r k) (r (k + 1))) (mx (r (k + 2)) (r (k + 3)))) (mx (mx (r (k + 3)) (r (k + 4))) (mx (r (k + 5)) (r (k + 6))))

/-- The maximum of the last `j + 1` rows ending at row 161, from the end backwards. -/
def sufMax : ℕ → α
  | 0 => r 161
  | j + 1 => mx (r (160 - j)) (sufMax j)

/-- Row `k` of the result: a whole window below row 156, a suffix from there to row 161, row 156's again in the padding. -/
def pooled (k : ℕ) : α :=
  if k < 156 then winMax mx r k else if k < 162 then sufMax mx r (161 - k) else sufMax mx r 5

end Carrier

variable {F : FTy → Type} [FloatOps F]

/-- The suffix maximum of vectors, at a lane, is the suffix maximum of the lanes. -/
theorem sufMax_lane {s : Shape} (R : ℕ → FVec F s .f32) (i : s.Idx) :
    ∀ j, sufMax maximumf R j i = sufMax FloatOps.maximumf (fun n => R n i) j
  | 0 => rfl
  | j + 1 => congrArg (FloatOps.maximumf (R (160 - j) i)) (sufMax_lane R i j)

/-- The pooled row of vectors, at a lane, is the pooled row of the lanes. -/
theorem pooled_lane {s : Shape} (R : ℕ → FVec F s .f32) (i : s.Idx) (k : ℕ) :
    pooled maximumf R k i = pooled FloatOps.maximumf (fun n => R n i) k := by
  unfold pooled
  split_ifs
  · rfl
  · exact sufMax_lane R i _
  · exact sufMax_lane R i _

/-! ## A tile's two buffers: 168 rows of 128 columns -/

/-- The element of a tile's buffer at row `n` and column `c`, both cut to the buffer's bounds. -/
def bufIx (n c : ℕ) : S168x128.Idx := fun
  | ⟨0, _⟩ => ⟨min n 167, by show min n 167 < 168; omega⟩
  | ⟨1, _⟩ => ⟨min c 127, by show min c 127 < 128; omega⟩

/-- What a tile's output buffer should hold, from its input buffer's contents `f`: in each column the pooled rows. -/
def tileOut (f : S168x128.Idx → F .f32) (y : S168x128.Idx) : F .f32 :=
  pooled FloatOps.maximumf (fun n => f (bufIx n (y 1).val)) (y 0).val

/-- Sixteen columns of one row of a buffer, from row `o 0` and column `o 1` on. -/
def lanes (f : S168x128.Idx → F .f32) (o : Fin 2 → ℕ) : FVec F S1x16 .f32 :=
  fun x => f (bufIx (o 0) (o 1 + (x 1).val))

/-- A load of sixteen columns of one row reads `lanes` at the closed form of its offsets. -/
theorem load_lanes {sp : Space} (v : View sig .scVector sp S168x128 .f32) (off : Fin 2 → ℕ) [c : ClosedOff off]
    (hin : ∀ a, off a + S1x16.size a ≤ S168x128.size a) (f : v.ty.Contents (Elt F)) :
    v.readAt (Elt F) (Rect.unit (s := S168x128) off S1x16.size hin).toLoadRect f = lanes (v.read (Elt F) f) c.form := by
  rw [show c.form = off from c.eq.symm]
  funext x
  rw [View.readAt_apply]
  refine congrArg _ (funext fun a => Fin.ext ?_)
  have h0 : off 0 + 1 ≤ 168 := hin 0
  have h1 : off 1 + 16 ≤ 128 := hin 1
  have x0 : (x 0).val < 1 := (x 0).isLt
  have x1 : (x 1).val < 16 := (x 1).isLt
  match a with
  | ⟨0, _⟩ => show off 0 + 1 * (x 0).val = min (off 0) 167; omega
  | ⟨1, _⟩ => show off 1 + 1 * (x 1).val = min (off 1 + (x 1).val) 127; omega

/-- A stored vector that is the pooled row of the loaded vectors holds, element by element, what `tileOut` says of the
    elements it is stored to. -/
theorem stored_ok {off : Fin 2 → ℕ} [c : ClosedOff off] (hin : ∀ a, off a + S1x16.size a ≤ S168x128.size a)
    {n b : ℕ} (hc : c.form = ![n, b]) (f : S168x128.Idx → F .f32) {w : FVec F S1x16 .f32}
    (hw : w = shapeCast S1x16 (pooled maximumf (fun m => shapeCast S16 (lanes f ![m, b]) shapeCasts_S1x16_S16) n) shapeCasts_S16_S1x16)
    (x : (Rect.unit (s := S168x128) off S1x16.size hin).shape.Idx) :
    w x = tileOut f ((Rect.unit (s := S168x128) off S1x16.size hin).emb x) := by
  have ho : off = ![n, b] := c.eq.trans hc
  subst ho
  have h1 : b + 16 ≤ 128 := hin 1
  have h0 : n + 1 ≤ 168 := hin 0
  have x0 : (x 0).val < 1 := (x 0).isLt
  have x1 : (x 1).val < 16 := (x 1).isLt
  have e : ∀ m, shapeCast S1x16 (shapeCast S16 (lanes f ![m, b]) shapeCasts_S1x16_S16) shapeCasts_S16_S1x16 x = lanes f ![m, b] x :=
    fun m => congrFun (shapeCast_shapeCast (lanes f ![m, b]) shapeCasts_S1x16_S16 shapeCasts_S16_S1x16) x
  rw [hw]
  show pooled maximumf _ n (Shape.reshapeEquiv _ x) = _
  rw [pooled_lane]
  show pooled FloatOps.maximumf (fun m => shapeCast S1x16 (shapeCast S16 (lanes f ![m, b]) shapeCasts_S1x16_S16) shapeCasts_S16_S1x16 x) n = _
  simp only [e]
  show _ = pooled FloatOps.maximumf (fun m => f (bufIx m (b + 1 * (x 1).val))) (n + 1 * (x 0).val)
  rw [Nat.one_mul, show n + 1 * (x 0).val = n by omega]
  rfl

/-! ## A trip's stores: one row each -/

/-- A stored piece carries row `n` of the sixteen columns from `b` on: its payload is what `tileOut` says, and it covers them. -/
structure RowPiece (f : S168x128.Idx → F .f32) (b : ℕ) (p : View.Piece (Elt F) S168x128 .f32) (n : ℕ) : Prop where
  value : ∀ x : p.1.shape.Idx, p.2 x = tileOut f (p.1.emb x)
  cover : ∀ y : S168x128.Idx, (y 0).val = n → b ≤ (y 1).val → (y 1).val < b + 16 → y ∈ p.1.set

/-- A store of sixteen lanes at row `n`, column `b`, of the pooled row of the loaded vectors is such a piece. -/
theorem RowPiece.of_store {off : Fin 2 → ℕ} [c : ClosedOff off] (hin : ∀ a, off a + S1x16.size a ≤ S168x128.size a)
    {n b : ℕ} (hc : c.form = ![n, b]) (f : S168x128.Idx → F .f32) {w : FVec F S1x16 .f32}
    (hw : w = shapeCast S1x16 (pooled maximumf (fun m => shapeCast S16 (lanes f ![m, b]) shapeCasts_S1x16_S16) n) shapeCasts_S16_S1x16) :
    RowPiece f b ⟨Rect.unit (s := S168x128) off S1x16.size hin, w⟩ n := by
  refine ⟨stored_ok hin hc f hw, fun y h0 h1 h2 => ?_⟩
  have ho : off = ![n, b] := c.eq.trans hc
  subst ho
  rw [Rect.mem_set_unit]
  intro a
  match a with
  | ⟨0, _⟩ => show n ≤ (y 0).val ∧ (y 0).val < n + 1; omega
  | ⟨1, _⟩ => exact ⟨h1, h2⟩

/-- When a trip's pieces carry the rows of `rows`, the element in a row of `rows` and in the trip's columns is as `tileOut` says
    after the stores; an element left alone has to be so already. -/
theorem writes_rows {sp : Space} (v : View sig .scVector sp S168x128 .f32) (f : S168x128.Idx → F .f32) (b : ℕ) (g : v.ty.Contents (Elt F))
    (L : List (View.Piece (Elt F) S168x128 .f32)) (rows : List ℕ) (h : List.Forall₂ (RowPiece f b) L rows) (y : S168x128.Idx)
    (hr : (y 0).val ∈ rows) (hlt : (y 1).val < b + 16) (ho : (y 1).val < b → v.read (Elt F) g y = tileOut f y) :
    v.read (Elt F) (v.writes (Elt F) g L) y = tileOut f y := by
  have hv : ∀ p ∈ L, ∀ x : p.1.shape.Idx, p.2 x = tileOut f (p.1.emb x) := by
    clear hr
    induction h with
    | nil => exact fun p hp => absurd hp List.not_mem_nil
    | cons hd _ ih => exact List.forall_mem_cons.2 ⟨hd.value, ih⟩
  by_cases hc : ∃ p ∈ L, y ∈ p.1.set
  · exact View.read_writes_apply_of_pieces v g (tileOut f) L hv y hc
  · rw [View.read_writes_apply_of_forall_not_mem v g y L fun p hp hm => hc ⟨p, hp, hm⟩]
    refine ho (lt_of_not_ge fun hge => hc ?_)
    clear hv hc ho
    induction h with
    | nil => exact absurd hr List.not_mem_nil
    | cons hd _ ih =>
      rcases List.mem_cons.1 hr with e | hr
      · exact ⟨_, List.mem_cons_self, hd.cover y e hge hlt⟩
      · obtain ⟨p, hp, hm⟩ := ih hr
        exact ⟨p, List.mem_cons_of_mem _ hp, hm⟩

end Cert.Proof.Hex

end
-- ==== Proof.Setup.lean ====
/-
  The names the proof of the kernel shares: the program as the launch theorem sees it, its resource algebra, a tile's thread, and
  the slices of the arrays that a tile's four transfers move.
-/
module

public import proofs.«01_k».proof.Defs
public import proofs.«01_k».proof.Proof.Pool
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.Hex

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

local notation "xV" => (Memref.whole Cert.KernelIdeal.main_arg0_scv : Memref Cert.KernelIdeal.sig Kind.scVector Space.hbm Cert.KernelIdeal.S642x2048 EltTy.f32)
local notation "oV" => (Memref.whole Cert.KernelIdeal.main_v0_scv : Memref Cert.KernelIdeal.sig Kind.scVector Space.hbm Cert.KernelIdeal.S168x2048 EltTy.f32)
local notation "aV" => (Memref.whole Cert.KernelIdeal.cc0_scratch0 : Memref Cert.KernelIdeal.sig Kind.scVector Space.vmem Cert.KernelIdeal.S168x128 EltTy.f32)
local notation "bV" => (Memref.whole Cert.KernelIdeal.cc0_scratch1 : Memref Cert.KernelIdeal.sig Kind.scVector Space.vmem Cert.KernelIdeal.S168x128 EltTy.f32)

/-! ## A tile -/

abbrev cV (L : grid0.Coords) : Fin τ.nSC := (L 0).castLE hcore0
abbrev jV (L : grid0.Coords) : Fin τ.nSub := (L 1).castLE hsub0
/-- The thread of the tile at coordinates `L`. -/
abbrev thr (d : Dev nD) (L : grid0.Coords) : Thread nD τ := V d (cV L) (jV L)

/-- Rows 0–71 of the tile's column block of the input: the first fetch's source. -/
abbrev xA (L : grid0.Coords) := (xV).slice (Rect.unit (s := S642x2048) (k0_off1 L) S72x128.size (k0_off1_inb L)) (fun _ => rfl)
/-- Rows 72–167 of it: the second fetch's. -/
abbrev xB (L : grid0.Coords) := (xV).slice (Rect.unit (s := S642x2048) (k0_off2 L) S96x128.size (k0_off2_inb L)) (fun _ => rfl)
/-- Rows 0–71 of the input buffer. -/
abbrev aA := (aV).slice (Rect.unit (s := S168x128) ![0, 0] S72x128.size inb_S168x128_S72x128_0_0) (fun _ => rfl)
/-- Rows 72–167 of the input buffer. -/
abbrev aB := (aV).slice (Rect.unit (s := S168x128) ![72, 0] S96x128.size inb_S168x128_S96x128_72_0) (fun _ => rfl)
/-- Rows 0–63 of the output buffer: what the first write-back sends. -/
abbrev bA := (bV).slice (Rect.unit (s := S168x128) ![0, 0] S64x128.size inb_S168x128_S64x128_0_0) (fun _ => rfl)
/-- Rows 64–167 of the output buffer. -/
abbrev bB := (bV).slice (Rect.unit (s := S168x128) ![64, 0] S104x128.size inb_S168x128_S104x128_64_0) (fun _ => rfl)
/-- Rows 0–63 of the tile's column block of the result. -/
abbrev oA (L : grid0.Coords) := (oV).slice (Rect.unit (s := S168x2048) (k0_off74 L) S64x128.size (k0_off74_inb L)) (fun _ => rfl)
/-- Rows 64–167 of it. -/
abbrev oB (L : grid0.Coords) := (oV).slice (Rect.unit (s := S168x2048) (k0_off179 L) S104x128.size (k0_off179_inb L)) (fun _ => rfl)

end Cert.Proof.Hex

end
-- ==== Proof.Trip1.lean ====
/-
  One trip of the kernel's first loop: sixteen columns of rows 0–63.
-/
module

public import proofs.«01_k».proof.Defs
public import proofs.«01_k».proof.Proof.Setup
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.Hex

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_arg0_scv : Memref Cert.KernelIdeal.sig Kind.scVector Space.hbm Cert.KernelIdeal.S642x2048 EltTy.f32)
local notation "oV" => (Memref.whole Cert.KernelIdeal.main_v0_scv : Memref Cert.KernelIdeal.sig Kind.scVector Space.hbm Cert.KernelIdeal.S168x2048 EltTy.f32)
local notation "aV" => (Memref.whole Cert.KernelIdeal.cc0_scratch0 : Memref Cert.KernelIdeal.sig Kind.scVector Space.vmem Cert.KernelIdeal.S168x128 EltTy.f32)
local notation "bV" => (Memref.whole Cert.KernelIdeal.cc0_scratch1 : Memref Cert.KernelIdeal.sig Kind.scVector Space.vmem Cert.KernelIdeal.S168x128 EltTy.f32)

variable [FloatOps F]

/-- The loads of a trip, as lanes of the whole input buffer. -/
theorem load_aV (d : Dev nD) (L : grid0.Coords) (off : Fin 2 → ℕ) [c : ClosedOff off]
    (hin : ∀ a, off a + (![1, 16] : Fin 2 → ℕ) a ≤ S168x128.size a) (f : Buf (Elt F) ((aV).view.loc (thr d L))) :
    (View.whole cc0_scratch0).readAt (Elt F) (Rect.unit (s := S168x128) off ![1, 16] hin).toLoadRect f = lanes f c.form :=
  load_lanes (aV).view off hin f

/-- What a trip's stores leave in the output buffer. -/
theorem writes_bV (f : S168x128.Idx → F .f32) (b : ℕ) (g : S168x128.Idx → F .f32)
    (Ps : List (View.Piece (Elt F) S168x128 .f32)) (rows : List ℕ) (h : List.Forall₂ (RowPiece f b) Ps rows) (y : S168x128.Idx)
    (hr : (y 0).val ∈ rows) (hlt : (y 1).val < b + 16) (ho : (y 1).val < b → g y = tileOut f y) :
    (bV).view.writes (Elt F) g Ps y = tileOut f y :=
  writes_rows (bV).view f b g Ps rows h y hr hlt ho

/-- The output buffer before trip `k` of the first loop: the first `16 k` columns of rows 0–63 are done. -/
def Done1 (fa fb : S168x128.Idx → F .f32) (k : ℕ) : Prop :=
  ∀ y : S168x128.Idx, (y 0).val < 64 → (y 1).val < 16 * k → fb y = tileOut fa y

/-- The first sixty-four rows, last first, listed. -/
theorem rows64 : (List.range 64).reverse = [63, 62, 61, 60, 59, 58, 57, 56, 55, 54, 53, 52, 51, 50, 49, 48, 47, 46, 45, 44, 43, 42, 41, 40,
    39, 38, 37, 36, 35, 34, 33, 32, 31, 30, 29, 28, 27, 26, 25, 24, 23, 22, 21, 20, 19, 18, 17, 16, 15, 14, 13, 12, 11, 10, 9, 8, 7, 6, 5, 4,
    3, 2, 1, 0] := by decide

set_option maxHeartbeats 16000000 in
/-- Trip `k` of the first loop takes sixteen more columns of rows 0–63 to their pooled values. -/
theorem trip1 (d : Dev nD) (L : grid0.Coords) (k : Fin k0_t1_loop.trips) (fa : Buf (Elt F) ((aV).view.loc (thr d L))) (fb : Buf (Elt F) ((bV).view.loc (thr d L)))
    (hfb : Done1 fa fb k.val) :
    iprop(((aV).view.loc (thr d L) ↦[Finset.univ \ (aB).view.set]{fullShare} fa) ∗ ((bV).view.loc (thr d L) ↦{fullShare} fb) : sProp 𝕄)
      ⊢ wp frame (wpE (defs₀ (F := F)) 𝒱₀ (thr d L) none) Set.univ
          (k0_t1_body L xV (Memref.isWhole_whole _) oV (Memref.isWhole_whole _)
            aV (Memref.isWhole_whole _) bV (Memref.isWhole_whole _) cc0_scratch2 cc0_scratch3 cc0_scratch4 cc0_scratch5 k ⟨⟩)
          fun _ => iprop(((aV).view.loc (thr d L) ↦[Finset.univ \ (aB).view.set]{fullShare} fa)
            ∗ ∃ fb', ⌜Done1 fa fb' (k.val + 1)⌝ ∗ ((bV).view.loc (thr d L) ↦{fullShare} fb')) := by
  iintro ⟨Ha, Hb⟩
  sl_exec
  sl_step
  isplitl [Ha]
  · iexact Ha
  iexists _
  isplitr [Hb]
  rotate_left
  · iexact Hb
  ipureintro
  intro y hy0 hy1
  refine writes_bV fa (16 * k.val) fb _ ((List.range 64).reverse) ?_ y (by simpa using hy0) (by omega) (hfb y hy0)
  rw [rows64]
  repeat' (first | exact List.Forall₂.nil | refine List.Forall₂.cons ?_ ?_)
  all_goals
    refine RowPiece.of_store _ rfl fa ?_
    sl_unfold_run_names
    simp only [load_aV]
    rfl

end Cert.Proof.Hex

end
-- ==== Proof.Trip2.lean ====
/-
  One trip of the kernel's second loop: sixteen columns of rows 64–167.
-/
module

public import proofs.«01_k».proof.Defs
public import proofs.«01_k».proof.Proof.Trip1
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.Hex

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_arg0_scv : Memref Cert.KernelIdeal.sig Kind.scVector Space.hbm Cert.KernelIdeal.S642x2048 EltTy.f32)
local notation "oV" => (Memref.whole Cert.KernelIdeal.main_v0_scv : Memref Cert.KernelIdeal.sig Kind.scVector Space.hbm Cert.KernelIdeal.S168x2048 EltTy.f32)
local notation "aV" => (Memref.whole Cert.KernelIdeal.cc0_scratch0 : Memref Cert.KernelIdeal.sig Kind.scVector Space.vmem Cert.KernelIdeal.S168x128 EltTy.f32)
local notation "bV" => (Memref.whole Cert.KernelIdeal.cc0_scratch1 : Memref Cert.KernelIdeal.sig Kind.scVector Space.vmem Cert.KernelIdeal.S168x128 EltTy.f32)

variable [FloatOps F]

/-- The output buffer before trip `k` of the second loop: the first `16 k` columns of rows 64–167 are done. -/
def Done2 (fa fb : S168x128.Idx → F .f32) (k : ℕ) : Prop :=
  ∀ y : S168x128.Idx, 64 ≤ (y 0).val → (y 1).val < 16 * k → fb y = tileOut fa y

/-- The rows a trip of the second loop stores, the last store first. -/
abbrev rows2 : List ℕ := [167, 166, 165, 164, 163, 162, 156, 157, 158, 159, 160, 161, 155, 154, 153, 152, 151, 150, 149, 148, 147, 146,
145, 144, 143, 142, 141, 140, 139, 138, 137, 136, 135, 134, 133, 132, 131, 130, 129, 128, 127, 126, 125, 124,
123, 122, 121, 120, 119, 118, 117, 116, 115, 114, 113, 112, 111, 110, 109, 108, 107, 106, 105, 104, 103, 102,
101, 100, 99, 98, 97, 96, 95, 94, 93, 92, 91, 90, 89, 88, 87, 86, 85, 84, 83, 82, 81, 80, 79, 78, 77, 76, 75,
74, 73, 72, 71, 70, 69, 68, 67, 66, 65, 64]

/-- They are all the rows from 64 on. -/
theorem mem_rows2 : ∀ n < 168, 64 ≤ n → n ∈ rows2 := by decide

set_option maxHeartbeats 16000000 in
/-- Trip `k` of the second loop takes sixteen more columns of rows 64–167 to their pooled values. -/
theorem trip2 (d : Dev nD) (L : grid0.Coords) (k : Fin k0_t2_loop.trips) (fa : Buf (Elt F) ((aV).view.loc (thr d L))) (fb : Buf (Elt F) ((bV).view.loc (thr d L)))
    (hfb : Done2 fa fb k.val) :
    iprop(((aV).view.loc (thr d L) ↦{fullShare} fa) ∗ ((bV).view.loc (thr d L) ↦[Finset.univ \ (bA).view.set]{fullShare} fb) : sProp 𝕄)
      ⊢ wp frame (wpE (defs₀ (F := F)) 𝒱₀ (thr d L) none) Set.univ
          (k0_t2_body L xV (Memref.isWhole_whole _) oV (Memref.isWhole_whole _)
            aV (Memref.isWhole_whole _) bV (Memref.isWhole_whole _) cc0_scratch2 cc0_scratch3 cc0_scratch4 cc0_scratch5 k ⟨⟩)
          fun _ => iprop(((aV).view.loc (thr d L) ↦{fullShare} fa)
            ∗ ∃ fb', ⌜Done2 fa fb' (k.val + 1)⌝ ∗ ((bV).view.loc (thr d L) ↦[Finset.univ \ (bA).view.set]{fullShare} fb')) := by
  iintro ⟨Ha, Hb⟩
  sl_exec
  sl_step
  isplitl [Ha]
  · iexact Ha
  iexists _
  isplitr [Hb]
  rotate_left
  · iexact Hb
  ipureintro
  intro y hy0 hy1
  refine writes_bV fa (16 * k.val) fb _ rows2 ?_ y (mem_rows2 _ (y 0).isLt hy0) (by omega) (hfb y hy0)
  repeat' (first | exact List.Forall₂.nil | refine List.Forall₂.cons ?_ ?_)
  all_goals
    refine RowPiece.of_store _ rfl fa ?_
    sl_unfold_run_names
    simp only [load_aV]
    rfl

end Cert.Proof.Hex

end
-- ==== Proof.Tile.lean ====
/-
  One tile's task: both fetches, the two loops, both write-backs, with the values they move.
-/
module

public import proofs.«01_k».proof.Defs
public import proofs.«01_k».proof.Proof.Trip2
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.Hex

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_arg0_scv : Memref Cert.KernelIdeal.sig Kind.scVector Space.hbm Cert.KernelIdeal.S642x2048 EltTy.f32)
local notation "oV" => (Memref.whole Cert.KernelIdeal.main_v0_scv : Memref Cert.KernelIdeal.sig Kind.scVector Space.hbm Cert.KernelIdeal.S168x2048 EltTy.f32)
local notation "aV" => (Memref.whole Cert.KernelIdeal.cc0_scratch0 : Memref Cert.KernelIdeal.sig Kind.scVector Space.vmem Cert.KernelIdeal.S168x128 EltTy.f32)
local notation "bV" => (Memref.whole Cert.KernelIdeal.cc0_scratch1 : Memref Cert.KernelIdeal.sig Kind.scVector Space.vmem Cert.KernelIdeal.S168x128 EltTy.f32)

variable [FloatOps F]

/-! ## The values -/

/-- The element of the kernel's input at row `n` and column `c`, cut to the rows a tile fetches and to the columns. -/
def inIx (n c : ℕ) : S642x2048.Idx := fun
  | ⟨0, _⟩ => ⟨min n 167, by show min n 167 < 642; omega⟩
  | ⟨1, _⟩ => ⟨min c 2047, by show min c 2047 < 2048; omega⟩

/-- What the kernel leaves in its result: in each column the pooled rows of the input. -/
def kernelOut (x : S642x2048.Idx → F .f32) (z : S168x2048.Idx) : F .f32 :=
  pooled FloatOps.maximumf (fun n => x (inIx n (z 1).val)) (z 0).val

/-- What a tile's input buffer holds once both fetches have landed. -/
def tileIn (L : grid0.Coords) (x : S642x2048.Idx → F .f32) (y : S168x128.Idx) : F .f32 :=
  x (inIx (y 0).val (128 * (L 1).val + (y 1).val))

/-- The pooled rows of a tile's buffer are the kernel's result at the tile's columns. -/
theorem tileOut_tileIn (L : grid0.Coords) (x : S642x2048.Idx → F .f32) (y : S168x128.Idx) (z : S168x2048.Idx)
    (h0 : (z 0).val = (y 0).val) (h1 : (z 1).val = 128 * (L 1).val + (y 1).val) : tileOut (tileIn L x) y = kernelOut x z := by
  unfold tileOut kernelOut
  rw [h0, h1]
  refine congrArg (fun r => pooled FloatOps.maximumf r (y 0).val) (funext fun n => congrArg x (funext fun a => Fin.ext ?_))
  have hy : (y 1).val < 128 := (y 1).isLt
  match a with
  | ⟨0, _⟩ => show min (min n 167) 167 = min n 167; omega
  | ⟨1, _⟩ => show min (128 * (L 1).val + min (y 1).val 127) 2047 = min (128 * (L 1).val + (y 1).val) 2047; omega

omit [FloatOps F]

/-- What a transfer over a whole view leaves there is its payload. -/
theorem landed {sp : Space} {s : Shape} (v : View sig .scVector sp s .f32) (f : v.ty.Contents (Elt F)) (w : s.Idx → Elt F .f32) (i : s.Idx) :
    v.read (Elt F) (v.writes (Elt F) f [⟨Rect.whole s, w⟩]) i = w i := by
  have h := View.read_writes_cons_emb v f (Rect.whole s) w [] i
  rwa [show (Rect.whole s).emb i = i from Rect.emb_whole_apply s i] at h

/-- The first fetch leaves rows 0 to 71 of the tile's columns in the input buffer. -/
theorem landA (L : grid0.Coords) (d : Dev nD) (x : Buf (Elt F) ((xV).view.loc (thr d L))) (fa : Buf (Elt F) ((aV).view.loc (thr d L)))
    (w : S72x128.Idx → Elt F .f32) (hw : w = (xA L).view.read (Elt F) x) :
    ∀ y ∈ (aA).view.set, (aA).view.writes (Elt F) fa [⟨Rect.whole _, w⟩] y = tileIn L x y := by
  subst hw
  intro y hy
  obtain ⟨i, -, rfl⟩ := Finset.mem_map.1 hy
  refine (landed (aA).view fa ((xA L).view.read (Elt F) x) i).trans (congrArg x (funext fun a => Fin.ext ?_))
  have e0 : k0_off1 L 0 = 0 := congrFun (k0_off1_eq L) 0
  have e1 : k0_off1 L 1 = 128 * (L 1).val := congrFun (k0_off1_eq L) 1
  have h0 : (i 0).val < 72 := (i 0).isLt
  have h1 : (i 1).val < 128 := (i 1).isLt
  have hL : (L 1).val < 16 := (L 1).isLt
  match a with
  | ⟨0, _⟩ => show k0_off1 L 0 + 1 * (i 0).val = min (0 + 1 * (i 0).val) 167; omega
  | ⟨1, _⟩ => show k0_off1 L 1 + 1 * (i 1).val = min (128 * (L 1).val + (0 + 1 * (i 1).val)) 2047; omega

/-- The second fetch leaves rows 72 to 167 of the tile's columns in the input buffer. -/
theorem landB (L : grid0.Coords) (d : Dev nD) (x : Buf (Elt F) ((xV).view.loc (thr d L))) (fa : Buf (Elt F) ((aV).view.loc (thr d L)))
    (w : S96x128.Idx → Elt F .f32) (hw : w = (xB L).view.read (Elt F) x) :
    ∀ y ∈ (aB).view.set, (aB).view.writes (Elt F) fa [⟨Rect.whole _, w⟩] y = tileIn L x y := by
  subst hw
  intro y hy
  obtain ⟨i, -, rfl⟩ := Finset.mem_map.1 hy
  refine (landed (aB).view fa ((xB L).view.read (Elt F) x) i).trans (congrArg x (funext fun a => Fin.ext ?_))
  have e0 : k0_off2 L 0 = 72 := congrFun (k0_off2_eq L) 0
  have e1 : k0_off2 L 1 = 128 * (L 1).val := congrFun (k0_off2_eq L) 1
  have h0 : (i 0).val < 96 := (i 0).isLt
  have h1 : (i 1).val < 128 := (i 1).isLt
  have hL : (L 1).val < 16 := (L 1).isLt
  match a with
  | ⟨0, _⟩ => show k0_off2 L 0 + 1 * (i 0).val = min (72 + 1 * (i 0).val) 167; omega
  | ⟨1, _⟩ => show k0_off2 L 1 + 1 * (i 1).val = min (128 * (L 1).val + (0 + 1 * (i 1).val)) 2047; omega

/-- The two fetches fill the input buffer between them. -/
theorem aA_set : (aA).view.set = Finset.univ \ (aB).view.set := by
  rw [show (aA).view.set = _ from View.set_slice_whole _ _, show (aB).view.set = _ from View.set_slice_whole _ _]
  ext (y : S168x128.Idx)
  have hy : (y 0).val < 168 := (y 0).isLt
  have hy1 : (y 1).val < 128 := (y 1).isLt
  have e1 : y ∈ (Rect.unit (s := S168x128) ![0, 0] S72x128.size inb_S168x128_S72x128_0_0).set ↔ (y 0).val < 72 := by
    rw [Rect.mem_set_unit]
    exact ⟨fun h => by have : (y 0).val < 0 + 72 := (h 0).2; omega, fun h a => match a with
      | ⟨0, _⟩ => ⟨Nat.zero_le _, by show (y 0).val < 0 + 72; omega⟩
      | ⟨1, _⟩ => ⟨Nat.zero_le _, by show (y 1).val < 0 + 128; omega⟩⟩
  have e2 : y ∈ (Rect.unit (s := S168x128) ![72, 0] S96x128.size inb_S168x128_S96x128_72_0).set ↔ 72 ≤ (y 0).val := by
    rw [Rect.mem_set_unit]
    exact ⟨fun h => (h 0).1, fun h a => match a with
      | ⟨0, _⟩ => ⟨h, by show (y 0).val < 72 + 96; omega⟩
      | ⟨1, _⟩ => ⟨Nat.zero_le _, by show (y 1).val < 0 + 128; omega⟩⟩
  refine e1.trans (Iff.trans ?_ Finset.mem_sdiff.symm)
  refine Iff.trans ?_ (and_congr_right fun _ => not_congr e2.symm)
  simp

variable [FloatOps F]

/-- The first write-back leaves the kernel's value in rows 0 to 63 of the tile's columns. -/
theorem outA (L : grid0.Coords) (d : Dev nD) (x : Buf (Elt F) ((xV).view.loc (thr d L))) (fo : Buf (Elt F) ((oV).view.loc (thr d L)))
    (fb : Buf (Elt F) ((bV).view.loc (thr d L))) (hfb : Done1 (tileIn L x) fb 8)
    (w : S64x128.Idx → Elt F .f32) (hw : w = (bA).view.read (Elt F) fb) :
    ∀ z ∈ (oA L).view.set, (oA L).view.writes (Elt F) fo [⟨Rect.whole _, w⟩] z = kernelOut x z := by
  subst hw
  intro z hz
  obtain ⟨i, -, rfl⟩ := Finset.mem_map.1 hz
  have e0 : k0_off74 L 0 = 0 := congrFun (k0_off74_eq L) 0
  have e1 : k0_off74 L 1 = 128 * (L 1).val := congrFun (k0_off74_eq L) 1
  have h0 : (i 0).val < 64 := (i 0).isLt
  have h1 : (i 1).val < 128 := (i 1).isLt
  refine (landed (oA L).view fo ((bA).view.read (Elt F) fb) i).trans ((hfb ((bA).view.emb i) ?_ ?_).trans (tileOut_tileIn L x _ _ ?_ ?_))
  · show 0 + 1 * (i 0).val < 64; omega
  · show 0 + 1 * (i 1).val < 16 * 8; omega
  · show k0_off74 L 0 + 1 * (i 0).val = 0 + 1 * (i 0).val; omega
  · show k0_off74 L 1 + 1 * (i 1).val = 128 * (L 1).val + (0 + 1 * (i 1).val); omega

/-- The second write-back leaves the kernel's value in rows 64 to 167 of the tile's columns. -/
theorem outB (L : grid0.Coords) (d : Dev nD) (x : Buf (Elt F) ((xV).view.loc (thr d L))) (fo : Buf (Elt F) ((oV).view.loc (thr d L)))
    (fb : Buf (Elt F) ((bV).view.loc (thr d L))) (hfb : Done2 (tileIn L x) fb 8)
    (w : S104x128.Idx → Elt F .f32) (hw : w = (bB).view.read (Elt F) fb) :
    ∀ z ∈ (oB L).view.set, (oB L).view.writes (Elt F) fo [⟨Rect.whole _, w⟩] z = kernelOut x z := by
  subst hw
  intro z hz
  obtain ⟨i, -, rfl⟩ := Finset.mem_map.1 hz
  have e0 : k0_off179 L 0 = 64 := congrFun (k0_off179_eq L) 0
  have e1 : k0_off179 L 1 = 128 * (L 1).val := congrFun (k0_off179_eq L) 1
  have h0 : (i 0).val < 104 := (i 0).isLt
  have h1 : (i 1).val < 128 := (i 1).isLt
  refine (landed (oB L).view fo ((bB).view.read (Elt F) fb) i).trans ((hfb ((bB).view.emb i) ?_ ?_).trans (tileOut_tileIn L x _ _ ?_ ?_))
  · show 64 ≤ 64 + 1 * (i 0).val; omega
  · show 0 + 1 * (i 1).val < 16 * 8; omega
  · show k0_off179 L 0 + 1 * (i 0).val = 64 + 1 * (i 0).val; omega
  · show k0_off179 L 1 + 1 * (i 1).val = 128 * (L 1).val + (0 + 1 * (i 1).val); omega

/-! ## The task -/

/-- Before trip `k` of the first loop: the fetched rows of the input buffer, and the first `k` column groups of the output buffer done. -/
def inv1 (d : Dev nD) (L : grid0.Coords) (x : Buf (Elt F) ((xV).view.loc (thr d L))) (k : ℕ) (_ : PUnit) : sProp 𝕄 :=
  iprop(((aV).view.loc (thr d L) ↦[Finset.univ \ (aB).view.set]{fullShare} tileIn L x)
    ∗ ∃ fb, ⌜Done1 (tileIn L x) fb k⌝ ∗ ((bV).view.loc (thr d L) ↦{fullShare} fb))

/-- Before trip `k` of the second loop: the whole input buffer, and the output buffer without the rows being written back. -/
def inv2 (d : Dev nD) (L : grid0.Coords) (x : Buf (Elt F) ((xV).view.loc (thr d L))) (k : ℕ) (_ : PUnit) : sProp 𝕄 :=
  iprop(((aV).view.loc (thr d L) ↦{fullShare} tileIn L x)
    ∗ ∃ fb, ⌜Done2 (tileIn L x) fb k⌝ ∗ ((bV).view.loc (thr d L) ↦[Finset.univ \ (bA).view.set]{fullShare} fb))

set_option maxHeartbeats 4000000 in
/-- One tile's run: from its columns of the input and of the result, its two buffers and its four semaphores at zero, it ends with its
    columns of the result at the kernel's value, the input as it was and the semaphores at zero. -/
theorem tile_run (d : Dev nD) (L : grid0.Coords) (O : CellTallies nD τ sig (HIx 1)) (W : Waits sig (HIx 1))
   (x : Buf (Elt F) ((xV).view.loc (thr d L))) (fo : Buf (Elt F) ((oV).view.loc (thr d L)))
   (fa : Buf (Elt F) ((aV).view.loc (thr d L))) (fb : Buf (Elt F) ((bV).view.loc (thr d L))) :
    iprop(Transfers.MayWaits (thr d L) (none : HIx 1) O
        ∗ ((xA L).view.loc (thr d L) ↦[(xA L).view.set]{fullShare} x)
        ∗ ((xB L).view.loc (thr d L) ↦[(xB L).view.set]{fullShare} x)
        ∗ ((oA L).view.loc (thr d L) ↦[(oA L).view.set]{fullShare} fo)
        ∗ ((oB L).view.loc (thr d L) ↦[(oB L).view.set]{fullShare} fo)
        ∗ ((aA).view.loc (thr d L) ↦[(aA).view.set]{fullShare} fa)
        ∗ ((aB).view.loc (thr d L) ↦[(aB).view.set]{fullShare} fa)
        ∗ ((bV).view.loc (thr d L) ↦{fullShare} fb)
        ∗ semVal (thr d L, SemLoc.dma cc0_scratch2.sem) 0
        ∗ semVal (thr d L, SemLoc.dma cc0_scratch3.sem) 0
        ∗ semVal (thr d L, SemLoc.dma cc0_scratch4.sem) 0
        ∗ semVal (thr d L, SemLoc.dma cc0_scratch5.sem) 0
        ∗ owes (thr d L) O W : sProp 𝕄)
      ⊢ wp frame (wpE (defs₀ (F := F)) 𝒱₀ (thr d L) none) Set.univ
          (cc0__hexpool_body L xV (Memref.isWhole_whole _) oV (Memref.isWhole_whole _)
            aV (Memref.isWhole_whole _) bV (Memref.isWhole_whole _) cc0_scratch2 cc0_scratch3 cc0_scratch4 cc0_scratch5)
          fun _ => iprop(((xA L).view.loc (thr d L) ↦[(xA L).view.set]{fullShare} x)
            ∗ ((xB L).view.loc (thr d L) ↦[(xB L).view.set]{fullShare} x)
            ∗ ((oA L).view.loc (thr d L) ↦[(oA L).view.set]{fullShare} kernelOut x)
            ∗ ((oB L).view.loc (thr d L) ↦[(oB L).view.set]{fullShare} kernelOut x)
            ∗ (∃ fa, (aV).view.loc (thr d L) ↦{fullShare} fa)
            ∗ (∃ fb, (bV).view.loc (thr d L) ↦{fullShare} fb)
            ∗ semVal (thr d L, SemLoc.dma cc0_scratch2.sem) 0
            ∗ semVal (thr d L, SemLoc.dma cc0_scratch3.sem) 0
            ∗ semVal (thr d L, SemLoc.dma cc0_scratch4.sem) 0
            ∗ semVal (thr d L, SemLoc.dma cc0_scratch5.sem) 0
            ∗ ∃ W', ⌜∀ p ∈ W', p ∈ W ∨ p.2 = none⌝ ∗ owes (thr d L) O W') := by
  rw [cc0__hexpool_body_eq_skeleton]; unfold cc0__hexpool_body_skel
  rw [k0_part44_eq_skeleton]; unfold k0_part44_skel
  iintro ⟨Hmw, HxA, HxB, HoA, HoB, HaA, HaB, Hb, HsA, HsB, HsOA, HsOB, HO⟩
  sl_exec
  ihave HaA' := (Entails.of_eq (show ((aA).view.loc (thr d L) ↦[(aA).view.set]{fullShare} _ : sProp 𝕄)
      = (aV).view.loc (thr d L) ↦[Finset.univ \ (aB).view.set]{fullShare} tileIn L x from
    (pointsTo_congr (landA L d x fa (tile_run.sl.dma0 d L x) rfl)).trans (by rw [aA_set]))) $$ HaA
  rw [bind_assoc]
  sl_for (inv1 d L x) $$ [HaA' Hb]
  case region =>
    intro k _
    unfold inv1
    iintro ⟨Ha, %fb1, %hfb1, Hb⟩
    iapply (trip1 d L k (tileIn L x) fb1 hfb1) $$ [Ha Hb]
    isplitl [Ha] <;> iassumption
  · unfold inv1
    isplitl [HaA']; · iexact HaA'
    iexists fb
    isplitr
    · ipureintro; intro y _ hy; omega
    · iexact Hb
  iintro %_ HI
  unfold inv1
  icases HI with ⟨Ha, %fb1, %hfb1, Hb⟩
  sl_exec
  ihave HaB' := (Entails.of_eq (show ((aB).view.loc (thr d L) ↦[(aB).view.set]{fullShare} _ : sProp 𝕄)
      = (aV).view.loc (thr d L) ↦[(aB).view.set]{fullShare} tileIn L x from
    pointsTo_congr (landB L d x (aB).view.junk (tile_run.sl.dma0_1 d L x) rfl))) $$ HaB
  ihave Ha' := (pointsTo_split_subset (ℓ := (aV).view.loc (thr d L)) (q := fullShare) (f := tileIn L x) (S := Finset.univ)
    (Finset.subset_univ (aB).view.set)).2 $$ [HaB' Ha]; · isplitl [HaB'] <;> iassumption
  sl_for (inv2 d L x) $$ [Ha' Hb]
  case region =>
    intro k _
    unfold inv2
    iintro ⟨Ha, %fb2, %hfb2, Hb⟩
    iapply (trip2 d L k (tileIn L x) fb2 hfb2) $$ [Ha Hb]
    isplitl [Ha] <;> iassumption
  · unfold inv2
    isplitl [Ha']; · iexact Ha'
    iexists fb1
    isplitr
    · ipureintro; intro y _ hy; omega
    · iexact Hb
  iintro %_ HI
  unfold inv2
  icases HI with ⟨Ha, %fb2, %hfb2, Hb⟩
  sl_exec
  sl_step
  ihave HoA' := (Entails.of_eq (show ((oA L).view.loc (thr d L) ↦[(oA L).view.set]{fullShare} _ : sProp 𝕄)
      = (oA L).view.loc (thr d L) ↦[(oA L).view.set]{fullShare} kernelOut x from
    pointsTo_congr (outA L d x fo fb1 hfb1 (tile_run.sl.dma0_2 fb1) rfl))) $$ HoA
  ihave HoB' := (Entails.of_eq (show ((oB L).view.loc (thr d L) ↦[(oB L).view.set]{fullShare} _ : sProp 𝕄)
      = (oB L).view.loc (thr d L) ↦[(oB L).view.set]{fullShare} kernelOut x from
    pointsTo_congr (outB L d x fo fb2 hfb2 (tile_run.sl.dma0_3 fb2) rfl))) $$ HoB
  ihave Hb' := (pointsTo_join_subset (ℓ := (bV).view.loc (thr d L)) (q := fullShare) (g := fb1) (f := fb2) (S := Finset.univ)
    (Finset.subset_univ (bA).view.set)) $$ [Hb_2 Hb]; · isplitl [Hb_2] <;> iassumption
  isplitl [HxA]; · iexact HxA
  isplitl [HxB]; · iexact HxB
  isplitl [HoA']; · iexact HoA'
  isplitl [HoB']; · iexact HoB'
  isplitl [Ha]; · iexists _; iexact Ha
  isplitl [Hb']; · iexists _; iexact Hb'
  isplitl [HsA]; · iexact HsA
  isplitl [HsB]; · iexact HsB
  isplitl [HsOA]; · iexact HsOA
  isplitl [HsOB]; · iexact HsOB
  iexists _; isplitr
  swap; · iexact HO
  ipureintro; intro p hp
  simp only [Finset.mem_insert] at hp
  rcases hp with hp | hp | hp | hp | hp
  · exact .inr (hp ▸ rfl)
  · exact .inr (hp ▸ rfl)
  · exact .inr (hp ▸ rfl)
  · exact .inr (hp ▸ rfl)
  · exact .inl hp

end Cert.Proof.Hex

end
-- ==== Proof.Launch.lean ====
/-
  The kernel's launch: the sixteen tiles' tasks put together (each takes its block of 128 columns of the input and of the kernel's
  result), then the slice that takes the kernel's result to the program's. Stated once over any float values.
-/
module

public import proofs.«01_k».proof.Defs
public import proofs.«01_k».proof.Proof.Tile
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.Hex

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ
local notation "xV" => (Memref.whole Cert.KernelIdeal.main_arg0_scv : Memref Cert.KernelIdeal.sig Kind.scVector Space.hbm Cert.KernelIdeal.S642x2048 EltTy.f32)
local notation "oV" => (Memref.whole Cert.KernelIdeal.main_v0_scv : Memref Cert.KernelIdeal.sig Kind.scVector Space.hbm Cert.KernelIdeal.S168x2048 EltTy.f32)
local notation "aV" => (Memref.whole Cert.KernelIdeal.cc0_scratch0 : Memref Cert.KernelIdeal.sig Kind.scVector Space.vmem Cert.KernelIdeal.S168x128 EltTy.f32)
local notation "bV" => (Memref.whole Cert.KernelIdeal.cc0_scratch1 : Memref Cert.KernelIdeal.sig Kind.scVector Space.vmem Cert.KernelIdeal.S168x128 EltTy.f32)

/-- The call runs on sixteen tiles. -/
theorem nSub_zero : (K (F := F)).nSub 0 = 16 := rfl

/-- The static facts that the launch theorem asks of the call. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

abbrev xLoc (d : Dev nD) : Loc nD τ sig := (SparseCore.T d).loc main_arg0
abbrev nLoc (d : Dev nD) : Loc nD τ sig := (SparseCore.T d).loc main_arg1
abbrev oLoc (d : Dev nD) : Loc nD τ sig := (SparseCore.T d).loc main_v0
abbrev rLoc (d : Dev nD) : Loc nD τ sig := (SparseCore.T d).loc main_v1

/-! ## The column blocks -/

/-- Columns `128 i … 128 i + 127` of the input. -/
def xCol (i : Fin 16) : Finset S642x2048.Idx := Finset.univ.filter fun y => (y 1).val / 128 = i.val
/-- The same columns of the kernel's result. -/
def oCol (i : Fin 16) : Finset S168x2048.Idx := Finset.univ.filter fun y => (y 1).val / 128 = i.val

omit m ρ in
/-- Two tiles' columns of the input share no element. -/
theorem xCol_disjoint : ∀ i ∈ (Finset.univ : Finset (Fin 16)), ∀ j ∈ (Finset.univ : Finset (Fin 16)), i ≠ j → Disjoint (xCol i) (xCol j) :=
  fun i _ j _ h => Finset.disjoint_left.2 fun _ hi hj =>
    h (Fin.ext ((Finset.mem_filter.1 hi).2.symm.trans (Finset.mem_filter.1 hj).2))
omit m ρ in
/-- Two tiles' columns of the result share no element. -/
theorem oCol_disjoint : ∀ i ∈ (Finset.univ : Finset (Fin 16)), ∀ j ∈ (Finset.univ : Finset (Fin 16)), i ≠ j → Disjoint (oCol i) (oCol j) :=
  fun i _ j _ h => Finset.disjoint_left.2 fun _ hi hj =>
    h (Fin.ext ((Finset.mem_filter.1 hi).2.symm.trans (Finset.mem_filter.1 hj).2))
omit m ρ in
/-- The sixteen tiles' columns of the input are all of it. -/
theorem xCol_cover : (Finset.univ : Finset (Fin 16)).biUnion xCol = Finset.univ :=
  Finset.eq_univ_of_forall fun y => Finset.mem_biUnion.2
    ⟨⟨(y 1).val / 128, by have : (y 1).val < 2048 := (y 1).isLt; omega⟩, Finset.mem_univ _, Finset.mem_filter.2 ⟨Finset.mem_univ _, rfl⟩⟩
omit m ρ in
/-- The sixteen tiles' columns of the result are all of it. -/
theorem oCol_cover : (Finset.univ : Finset (Fin 16)).biUnion oCol = Finset.univ :=
  Finset.eq_univ_of_forall fun y => Finset.mem_biUnion.2
    ⟨⟨(y 1).val / 128, by have : (y 1).val < 2048 := (y 1).isLt; omega⟩, Finset.mem_univ _, Finset.mem_filter.2 ⟨Finset.mem_univ _, rfl⟩⟩

omit ρ in
/-- Holding the input is holding each tile's columns of it. -/
theorem xPts_cols (d : Dev nD) (f : Buf (Elt F) (xLoc d)) :
    (xLoc d ↦{fullShare} f : sProp 𝕄) = bigSep Finset.univ fun i : Fin 16 => xLoc d ↦[xCol i]{fullShare} f := by
  rw [← pointsTo_biUnion Finset.univ (ℓ := xLoc d) xCol xCol_disjoint, xCol_cover]; try rfl
omit ρ in
/-- Holding the result is holding each tile's columns of it. -/
theorem oPts_cols (d : Dev nD) (f : Buf (Elt F) (oLoc d)) :
    (oLoc d ↦{fullShare} f : sProp 𝕄) = bigSep Finset.univ fun i : Fin 16 => oLoc d ↦[oCol i]{fullShare} f := by
  rw [← pointsTo_biUnion Finset.univ (ℓ := oLoc d) oCol oCol_disjoint, oCol_cover]; try rfl

variable [FloatOps F]

/-! ## What the call and the tasks carry -/

/-- The kernel's result, as its array holds it. -/
abbrev outBuf (d : Dev nD) : Buf (Elt F) (oLoc d) := kernelOut (F := F) (m (xLoc d))

abbrev xPts (d : Dev nD) : sProp 𝕄 := xLoc d ↦{fullShare} m (xLoc d)
abbrev oPts (d : Dev nD) (f : Buf (Elt F) (oLoc d)) : sProp 𝕄 := oLoc d ↦{fullShare} f
abbrev xColPts (d : Dev nD) (i : Fin 16) : sProp 𝕄 := xLoc d ↦[xCol i]{fullShare} m (xLoc d)
abbrev oColPts (d : Dev nD) (i : Fin 16) (f : Buf (Elt F) (oLoc d)) : sProp 𝕄 := oLoc d ↦[oCol i]{fullShare} f

/-- The call takes the input and the result's array whole and brings the result back at its value; each task its columns of both. -/
def P : (K (F := F)).Pay (nD := nD) (Val := Elt F) (Name := ℕ) (U := UU) where
  st := fun q d _ => match q with | 0 => iprop(xPts m d ∗ oPts d (m (oLoc d)))
  dn := fun q d _ => match q with | 0 => iprop(xPts m d ∗ oPts d (outBuf m d))
  go := fun q d _ i => match q with
    | 0 => iprop(xColPts m d (Fin.cast nSub_zero i) ∗ oColPts d (Fin.cast nSub_zero i) (m (oLoc d)))
  td := fun q d _ i => match q with
    | 0 => iprop(xColPts m d (Fin.cast nSub_zero i) ∗ oColPts d (Fin.cast nSub_zero i) (outBuf m d))
  x := fun _ _ => iprop(emp)

instance P_storable : (P (F := F) m).IsStorable where
  st q d _ := match q with
    | 0 => (inferInstance : BI.Storable (upEmb : UEmb _ 𝕄) iprop(xPts m d ∗ oPts d (m (oLoc d))))
  dn q d _ := match q with
    | 0 => (inferInstance : BI.Storable (upEmb : UEmb _ 𝕄) iprop(xPts m d ∗ oPts d (outBuf m d)))
  go q d _ i := match q with
    | 0 => (inferInstance : BI.Storable (upEmb : UEmb _ 𝕄)
      iprop(xColPts m d (Fin.cast nSub_zero i) ∗ oColPts d (Fin.cast nSub_zero i) (m (oLoc d))))
  td q d _ i := match q with
    | 0 => (inferInstance : BI.Storable (upEmb : UEmb _ 𝕄)
      iprop(xColPts m d (Fin.cast nSub_zero i) ∗ oColPts d (Fin.cast nSub_zero i) (outBuf m d)))

/-! ## One task -/

section Task

variable (d : Dev nD) (L : grid0.Coords)

omit [FloatOps F] in
/-- The grid has sixteen points along its second axis. -/
theorem bound_one : grid0.bound 1 = 16 := rfl
abbrev jL (L : grid0.Coords) : Fin 16 := Fin.cast bound_one (L 1)

omit [FloatOps F] m ρ in
/-- A rectangle of whole-buffer elements, read coordinate by coordinate, for two axes. -/
theorem mem_unit2 {n₀ n₁ : ℕ} {s : Shape} {off size : Fin s.rank → ℕ} (inb : ∀ a, off a + size a ≤ s.size a) (y : s.Idx) (a₀ a₁ : Fin s.rank)
    (h : ∀ a, a = a₀ ∨ a = a₁) (h0 : off a₀ = n₀) (h1 : off a₁ = n₁) :
    y ∈ (Rect.unit off size inb).set ↔ (n₀ ≤ (y a₀).val ∧ (y a₀).val < n₀ + size a₀) ∧ (n₁ ≤ (y a₁).val ∧ (y a₁).val < n₁ + size a₁) := by
  subst h0 h1
  rw [Rect.mem_set_unit]
  exact ⟨fun hy => ⟨hy a₀, hy a₁⟩, fun hy a => by rcases h a with rfl | rfl; exacts [hy.1, hy.2]⟩

omit [FloatOps F] m ρ in
/-- A rank-two array has two axes. -/
theorem two_axes : ∀ a : Fin 2, a = 0 ∨ a = 1 := by decide

omit [FloatOps F] m ρ in
/-- What the first fetch reads: rows 0 to 71 of the tile's 128 columns. -/
theorem mem_xA (y : S642x2048.Idx) : y ∈ (xA L).view.set ↔ (0 ≤ (y 0).val ∧ (y 0).val < 0 + 72) ∧ (128 * (L 1).val ≤ (y 1).val ∧ (y 1).val < 128 * (L 1).val + 128) := by
  rw [show (xA L).view.set = _ from View.set_slice_whole _ _]
  exact mem_unit2 (s := S642x2048) (k0_off1_inb L) y 0 1 two_axes (congrFun (k0_off1_eq L) 0) (congrFun (k0_off1_eq L) 1)
omit [FloatOps F] m ρ in
/-- What the second fetch reads: rows 72 to 167 of the tile's 128 columns. -/
theorem mem_xB (y : S642x2048.Idx) : y ∈ (xB L).view.set ↔ (72 ≤ (y 0).val ∧ (y 0).val < 72 + 96) ∧ (128 * (L 1).val ≤ (y 1).val ∧ (y 1).val < 128 * (L 1).val + 128) := by
  rw [show (xB L).view.set = _ from View.set_slice_whole _ _]
  exact mem_unit2 (s := S642x2048) (k0_off2_inb L) y 0 1 two_axes (congrFun (k0_off2_eq L) 0) (congrFun (k0_off2_eq L) 1)
omit [FloatOps F] m ρ in
/-- What the first write-back writes: rows 0 to 63 of the tile's 128 columns. -/
theorem mem_oA (y : S168x2048.Idx) : y ∈ (oA L).view.set ↔ (0 ≤ (y 0).val ∧ (y 0).val < 0 + 64) ∧ (128 * (L 1).val ≤ (y 1).val ∧ (y 1).val < 128 * (L 1).val + 128) := by
  rw [show (oA L).view.set = _ from View.set_slice_whole _ _]
  exact mem_unit2 (s := S168x2048) (k0_off74_inb L) y 0 1 two_axes (congrFun (k0_off74_eq L) 0) (congrFun (k0_off74_eq L) 1)
omit [FloatOps F] m ρ in
/-- What the second write-back writes: rows 64 to 167 of the tile's 128 columns. -/
theorem mem_oB (y : S168x2048.Idx) : y ∈ (oB L).view.set ↔ (64 ≤ (y 0).val ∧ (y 0).val < 64 + 104) ∧ (128 * (L 1).val ≤ (y 1).val ∧ (y 1).val < 128 * (L 1).val + 128) := by
  rw [show (oB L).view.set = _ from View.set_slice_whole _ _]
  exact mem_unit2 (s := S168x2048) (k0_off179_inb L) y 0 1 two_axes (congrFun (k0_off179_eq L) 0) (congrFun (k0_off179_eq L) 1)

omit [FloatOps F] m ρ in
/-- The first fetch reads among the tile's columns. -/
theorem xA_sub : (xA L).view.set ⊆ xCol (jL L) := fun y hy => by
  have h := (mem_xA L y).1 hy
  exact Finset.mem_filter.2 ⟨Finset.mem_univ _, by show (y 1).val / 128 = (L 1).val; omega⟩
omit [FloatOps F] m ρ in
/-- The second fetch reads among the tile's columns, apart from the first. -/
theorem xB_sub : (xB L).view.set ⊆ xCol (jL L) \ (xA L).view.set := fun y hy => by
  have h := (mem_xB L y).1 hy
  exact Finset.mem_sdiff.2 ⟨Finset.mem_filter.2 ⟨Finset.mem_univ _, by show (y 1).val / 128 = (L 1).val; omega⟩,
    fun hA => by have := (mem_xA L y).1 hA; omega⟩
omit [FloatOps F] m ρ in
/-- The first write-back writes among the tile's columns. -/
theorem oA_sub : (oA L).view.set ⊆ oCol (jL L) := fun y hy => by
  have h := (mem_oA L y).1 hy
  exact Finset.mem_filter.2 ⟨Finset.mem_univ _, by show (y 1).val / 128 = (L 1).val; omega⟩
omit [FloatOps F] m ρ in
/-- The second write-back writes the rest of the tile's columns. -/
theorem oB_eq : oCol (jL L) \ (oA L).view.set = (oB L).view.set := by
  ext (y : S168x2048.Idx)
  have h0 : (y 0).val < 168 := (y 0).isLt
  refine Finset.mem_sdiff.trans (Iff.trans ?_ (mem_oB L y).symm)
  refine (and_congr Finset.mem_filter (not_congr (mem_oA L y))).trans ?_
  show (_ ∧ (y 1).val / 128 = (L 1).val) ∧ _ ↔ _
  constructor
  · rintro ⟨⟨-, h⟩, h'⟩; omega
  · intro h; exact ⟨⟨Finset.mem_univ _, by omega⟩, by omega⟩

omit [FloatOps F] m ρ in
/-- A task's columns of the input are what it fetches and a rest it leaves alone. -/
theorem xCol_split (f : Buf (Elt F) (xLoc d)) :
    (xLoc d ↦[xCol (jL L)]{fullShare} f : sProp 𝕄)
      ⊣⊢ iprop(((xA L).view.loc (thr d L) ↦[(xA L).view.set]{fullShare} f) ∗ ((xB L).view.loc (thr d L) ↦[(xB L).view.set]{fullShare} f)
          ∗ xLoc d ↦[(xCol (jL L) \ (xA L).view.set) \ (xB L).view.set]{fullShare} f) := by
  have h1 : (xLoc d ↦[xCol (jL L)]{fullShare} f : sProp 𝕄) ⊣⊢ _ := pointsTo_split_subset (xA_sub L)
  have h2 : (xLoc d ↦[xCol (jL L) \ (xA L).view.set]{fullShare} f : sProp 𝕄) ⊣⊢ _ := pointsTo_split_subset (xB_sub L)
  constructor
  · exact h1.1.trans (sep_mono_right h2.1)
  · exact (sep_mono_right h2.2).trans h1.2

omit [FloatOps F] m ρ in
/-- A task's columns of the result are its two write-backs'. -/
theorem oCol_split (f : Buf (Elt F) (oLoc d)) :
    (oLoc d ↦[oCol (jL L)]{fullShare} f : sProp 𝕄)
      ⊣⊢ iprop(((oA L).view.loc (thr d L) ↦[(oA L).view.set]{fullShare} f) ∗ (oB L).view.loc (thr d L) ↦[(oB L).view.set]{fullShare} f) := by
  have h1 : (oLoc d ↦[oCol (jL L)]{fullShare} f : sProp 𝕄) ⊣⊢ _ := pointsTo_split_subset (oA_sub L)
  rw [oB_eq] at h1
  exact h1

omit [FloatOps F] m ρ in
/-- The input buffer is its two fetches' rows. -/
theorem aV_split (f : Buf (Elt F) ((aV).view.loc (thr d L))) :
    ((thr d L).loc cc0_scratch0 ↦{fullShare} f : sProp 𝕄)
      ⊢ iprop(((aA).view.loc (thr d L) ↦[(aA).view.set]{fullShare} f) ∗ (aB).view.loc (thr d L) ↦[(aB).view.set]{fullShare} f) := by
  have h : ((aV).view.loc (thr d L) ↦{fullShare} f : sProp 𝕄) ⊣⊢ _ := pointsTo_split_subset (Finset.subset_univ (aB).view.set)
  rw [← aA_set] at h
  exact h.1.trans sep_comm.1

abbrev cell (s : DmaSems sig S_) (d : Dev nD) (L : grid0.Coords) : GSem nD τ sig := (thr d L, SemLoc.dma s.sem)

omit [FloatOps F] m ρ in
/-- A scoped transfer semaphore of a tile is one of the tile's own. -/
theorem mem_own {s : DmaSems sig S_} (h : (SemLoc.dma s.sem : SemLoc sig).isScoped .scVector = true) : cell s d L ∈ ownCells (thr d L) :=
  (mem_ownCells (g := cell s d L)).mpr ⟨rfl, h⟩
omit [FloatOps F] m ρ in
/-- Different transfer semaphores of a tile are different cells. -/
theorem cell_ne {s t : DmaSems sig S_} (h : (SemLoc.dma s.sem : SemLoc sig) ≠ SemLoc.dma t.sem) : cell s d L ≠ cell t d L :=
  fun e => h (congrArg Prod.snd e)

omit [FloatOps F] m ρ in
/-- The tile's four transfer semaphores are among its own. -/
theorem ownSems0_V :
    (ownSems0 (thr d L) : sProp 𝕄)
      = iprop(semVal (cell cc0_scratch2 d L) 0 ∗ semVal (cell cc0_scratch3 d L) 0 ∗ semVal (cell cc0_scratch4 d L) 0 ∗ semVal (cell cc0_scratch5 d L) 0
          ∗ bigSep (((((ownCells (thr d L)).erase (cell cc0_scratch2 d L)).erase (cell cc0_scratch3 d L)).erase (cell cc0_scratch4 d L)).erase (cell cc0_scratch5 d L))
              fun g => semVal g 0) := by
  unfold SparseCore.Cfg.ownSems0
  rw [SparseCore.bigSep_erase' (mem_own d L (s := cc0_scratch2) (by decide)),
    SparseCore.bigSep_erase' (Finset.mem_erase.mpr ⟨cell_ne d L (by decide), mem_own d L (s := cc0_scratch3) (by decide)⟩),
    SparseCore.bigSep_erase' (Finset.mem_erase.mpr ⟨cell_ne d L (by decide), Finset.mem_erase.mpr ⟨cell_ne d L (by decide),
      mem_own d L (s := cc0_scratch4) (by decide)⟩⟩),
    SparseCore.bigSep_erase' (Finset.mem_erase.mpr ⟨cell_ne d L (by decide), Finset.mem_erase.mpr ⟨cell_ne d L (by decide),
      Finset.mem_erase.mpr ⟨cell_ne d L (by decide), mem_own d L (s := cc0_scratch5) (by decide)⟩⟩⟩)]

omit [FloatOps F] m ρ in
/-- Its two buffers are among its own. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The task: its columns of the input and of the result in, the result's at their values out, all else as it was. -/
theorem task_body (O : CellTallies nD τ sig (HIx 1)) (W : Waits sig (HIx 1)) (hO : ∀ g, O g none = 0) :
    iprop(levAts (K (F := F)).L (K (F := F)).lev ∗ emp
        ∗ (xColPts m d (jL L) ∗ oColPts d (jL L) (m (oLoc d)))
        ∗ scopedBufs (thr d L) ∗ scopedSems0 (thr d L) ∗ owes (thr d L) O W)
      ⊢ wp frame (wpE (defs₀ (F := F)) 𝒱₀ (thr d L) none) Set.univ
          (cc0__hexpool_body L xV (Memref.isWhole_whole _) oV (Memref.isWhole_whole _)
            aV (Memref.isWhole_whole _) bV (Memref.isWhole_whole _) cc0_scratch2 cc0_scratch3 cc0_scratch4 cc0_scratch5)
          fun _ => iprop((xColPts m d (jL L) ∗ oColPts d (jL L) (outBuf m d))
            ∗ scopedBufs (thr d L) ∗ scopedSems0 (thr d L)
            ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownSems0_V, ownBufs_V]
  iintro ⟨#Hlv, -, ⟨Hx, Ho⟩, ⟨⟨%fa, Ha⟩, ⟨%fb, Hb⟩, Hbufs⟩, ⟨HsA, HsB, HsOA, HsOB, Hsems⟩, HO⟩
  ihave Hmw := (show levAts (K (F := F)).L (K (F := F)).lev ⊢ Transfers.MayWaits (thr d L) (none : HIx 1) O from
    (K (F := F)).mayWaits_none (thr := thr d L) hO) $$ Hlv
  ihave Hx' := (xCol_split d L (m (xLoc d))).1 $$ Hx
  icases Hx' with ⟨HxA, HxB, Hxr⟩
  ihave Ho' := (oCol_split d L (m (oLoc d))).1 $$ Ho
  icases Ho' with ⟨HoA, HoB⟩
  ihave Ha' := (aV_split d L fa) $$ Ha
  icases Ha' with ⟨HaA, HaB⟩
  iapply (wp_wand_r frame (wpE (defs₀ (F := F)) 𝒱₀ (thr d L) none) Set.univ)
  isplitl [HxA HxB HoA HoB HaA HaB Hb HsA HsB HsOA HsOB HO]
  · iapply (tile_run d L O W (m (xLoc d)) (m (oLoc d)) fa fb)
    isplitr; · iexact Hmw
    isplitl [HxA]; · iexact HxA
    isplitl [HxB]; · iexact HxB
    isplitl [HoA]; · iexact HoA
    isplitl [HoB]; · iexact HoB
    isplitl [HaA]; · iexact HaA
    isplitl [HaB]; · iexact HaB
    isplitl [Hb]; · iexact Hb
    isplitl [HsA]; · iexact HsA
    isplitl [HsB]; · iexact HsB
    isplitl [HsOA]; · iexact HsOA
    isplitl [HsOB]; · iexact HsOB
    iexact HO
  iintro %_ ⟨HxA, HxB, HoA, HoB, ⟨%fa', Ha⟩, ⟨%fb', Hb⟩, HsA, HsB, HsOA, HsOB, HO⟩
  isplitl [HxA HxB Hxr HoA HoB]
  · isplitl [HxA HxB Hxr]
    · iapply (xCol_split d L (m (xLoc d))).2
      isplitl [HxA]; · iexact HxA
      isplitl [HxB]; · iexact HxB
      iexact Hxr
    · iapply (oCol_split d L (outBuf m d)).2
      isplitl [HoA]; · iexact HoA
      iexact HoB
  isplitl [Ha Hb Hbufs]
  · isplitl [Ha]; · iexists fa'; iexact Ha
    isplitl [Hb]; · iexists fb'; iexact Hb
    iexact Hbufs
  isplitl [HsA HsB HsOA HsOB Hsems]
  · isplitl [HsA]; · iexact HsA
    isplitl [HsB]; · iexact HsB
    isplitl [HsOA]; · iexact HsOA
    isplitl [HsOB]; · iexact HsOB
    iexact Hsems
  iexact HO

def coordsV (c : Fin (grid0.bound 0)) (s : Fin (grid0.bound 1)) : grid0.Coords :=
  fun | 0 => c | 1 => s | ⟨_ + 2, h⟩ => absurd h (Nat.not_lt.2 (Nat.le_add_left _ _))

/-- What a tile runs for the call: the kernel body at its coordinates, on a tile of the grid. -/
theorem defs₀_vector (c : Fin τ.nSC) (s : Fin τ.nSub) :
    defs₀ (F := F) (.scVector c s) 0 ()
      = SparseCore.onTile hcore0 hsub0 (fun c s => cc0__hexpool_body (coordsV c s)
          xV (Memref.isWhole_whole _) oV (Memref.isWhole_whole _)
          aV (Memref.isWhole_whole _) bV (Memref.isWhole_whole _) cc0_scratch2 cc0_scratch3 cc0_scratch4 cc0_scratch5) ⟨⟩ c s := rfl

omit [FloatOps F] m ρ in
/-- A task's end, weakened to the form in which the launch asks for it. -/
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task meets what the launch asks of it. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task_body m d (coordsV ⟨_, hci.1⟩ ⟨_, hci.2⟩) O W hO).trans (wp_mono frame _ _ fun _ => obl_post)

end Task

/-! ## The call's operands split to the tasks and join again -/

omit [FloatOps F] m ρ in
/-- A conjunction over the call's tiles is one over sixteen indices. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The call's operands split into the tiles' columns, and the tiles' results join into the call's result. -/
theorem vecSplit : (K (F := F)).VecSplit' (P m) 0 := by
  intro d c
  show iprop(xPts m d ∗ oPts d (m (oLoc d))) ⊢ |={Set.univ}=> iprop(
      (bigSep Finset.univ fun i : Fin ((K (F := F)).nSub 0) =>
        iprop(xColPts m d (Fin.cast nSub_zero i) ∗ oColPts d (Fin.cast nSub_zero i) (m (oLoc d))))
      ∗ ((bigSep Finset.univ fun i : Fin ((K (F := F)).nSub 0) =>
          iprop(xColPts m d (Fin.cast nSub_zero i) ∗ oColPts d (Fin.cast nSub_zero i) (outBuf m d)))
          -∗ iprop(xPts m d ∗ oPts d (outBuf m d))))
  rw [bigSep_tasks (F := F) (fun i => iprop(xColPts m d i ∗ oColPts d i (m (oLoc d)))),
    bigSep_tasks (F := F) (fun i => iprop(xColPts m d i ∗ oColPts d i (outBuf m d))), bigSep_sep', bigSep_sep']
  unfold xPts oPts xColPts oColPts
  rw [xPts_cols, oPts_cols, oPts_cols]
  iintro H; imodintro
  isplitl [H]; · iexact H
  iintro H; iexact H

/-! ## The launch's ghost state -/

def u₀ : UU := (initOf (K (F := F)).hsCells (K (F := F)).hsToks, 1)

omit [FloatOps F] m ρ in
/-- Nothing at all, at each of a set. -/
theorem nothing_each {I : Type} (s : Finset I) : (bigSep s fun _ => iprop(emp)) = (iprop(emp) : sProp 𝕄) := bigSep_emp_const s

/-- The ghost state of the launch gives the handshakes their start, and no tile needs anything beside. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothing_each]; iempintro
  rw [show (bigSep Finset.univ fun t : Thread nD τ => bigSep Finset.univ fun q : Fin 1 => (P (F := F) m).x q t) = bigSep Finset.univ fun _ => iprop(emp) from
    bigSep_congr fun _ _ => bigSep_univ_of_subsingleton (0 : Fin 1), nothing_each]
  iempintro

/-! ## The program on the TensorCore: the call, then the slice -/

abbrev x' : DevRef τ sig := Proc.devRef .tc (main_arg0 : Ref sig .tc)
abbrev n' : DevRef τ sig := Proc.devRef .tc (main_arg1 : Ref sig .tc)
abbrev o' : DevRef τ sig := Proc.devRef .tc (main_v0 : Ref sig .tc)
abbrev r' : DevRef τ sig := Proc.devRef .tc (main_v1 : Ref sig .tc)

/-- The first 162 rows of a kernel's result. -/
abbrev cutRows (f : S168x2048.Idx → Elt F .f32) : S162x2048.Idx → Elt F .f32 :=
  extractStridedSlice S162x2048 ![0, 0] f slices_S168x2048_S162x2048_0_0

abbrev opCut : HloOp τ sig (Elt F) := StableHlo.unary main_v0 main_v1
  ((extractStridedSlice S162x2048 ![0, 0] · slices_S168x2048_S162x2048_0_0) : (⟨S168x2048, .f32⟩ : BufTy).Contents (Elt F) → (⟨S162x2048, .f32⟩ : BufTy).Contents (Elt F))

/-- The program's arrays. -/
abbrev arrs : Finset (DevRef τ sig) := {x', n', o', r'}

omit [FloatOps F] m ρ in
/-- Holding the program's arrays at a valuation is holding each of the four. -/
theorem held_arrs (d : Dev nD) (W : Valuation τ sig (Elt F)) :
    (held (T d) arrs W : sProp 𝕄) = iprop((xLoc d ↦{fullShare} W x') ∗ (nLoc d ↦{fullShare} W n') ∗ (oLoc d ↦{fullShare} W o') ∗ rLoc d ↦{fullShare} W r') := by
  unfold held arrs
  rw [SparseCore.bigSep_insert' (by decide), SparseCore.bigSep_insert' (by decide), SparseCore.bigSep_insert' (by decide), bigSep_singleton]

omit [FloatOps F] m ρ in
/-- The TensorCore's arrays are the program's four. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (nLoc d ↦{fullShare} W main_arg1) ∗ (oLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch's contents; after the call, the kernel's result at its value. -/
def V0 (d : Dev nD) : Valuation τ sig (Elt F) := fun b => m (d, b)
def V1 (d : Dev nD) : Valuation τ sig (Elt F) := Function.update (V0 m d) o' (outBuf m d)

/-- After the call the input is as at the launch. -/
theorem V1_x (d : Dev nD) : V1 m d x' = m (xLoc d) := Function.update_of_ne (show x' ≠ o' by decide) _ _
/-- After the call the neighbour table is as at the launch. -/
theorem V1_n (d : Dev nD) : V1 m d n' = m (nLoc d) := Function.update_of_ne (show n' ≠ o' by decide) _ _
/-- After the call the kernel's result is at its value. -/
theorem V1_o (d : Dev nD) : V1 m d o' = outBuf m d := Function.update_self _ _ _
/-- After the call the program's result is as at the launch. -/
theorem V1_r (d : Dev nD) : V1 m d r' = m (rLoc d) := Function.update_of_ne (show r' ≠ o' by decide) _ _

/-- What the program leaves: its arguments as they were, its result the kernel's first 162 rows. -/
abbrev FIN (d : Dev nD) : sProp 𝕄 :=
  iprop(xPts m d ∗ (nLoc d ↦{fullShare} m (nLoc d)) ∗ rLoc d ↦{fullShare} cutRows (outBuf m d))

/-- After the slice: the arguments as they were, the program's result the kernel's first 162 rows. -/
theorem held_after (d : Dev nD) :
    (held (T d) arrs ((opCut (F := F)).result (V1 m d)) : sProp 𝕄)
      ⊢ iprop(xPts m d ∗ (nLoc d ↦{fullShare} m (nLoc d)) ∗ (rLoc d ↦{fullShare} cutRows (outBuf m d)) ∗ oPts d (outBuf m d)) := by
  rw [held_arrs,
    (opCut (F := F)).result_of_not_mem (V1 m d) (b := x') (show x' ∉ ({r'} : Finset (DevRef τ sig)) by decide), V1_x,
    (opCut (F := F)).result_of_not_mem (V1 m d) (b := n') (show n' ∉ ({r'} : Finset (DevRef τ sig)) by decide), V1_n,
    (opCut (F := F)).result_of_not_mem (V1 m d) (b := o') (show o' ∉ ({r'} : Finset (DevRef τ sig)) by decide), V1_o]
  have hr : (opCut (F := F)).result (V1 m d) r' = cutRows (outBuf m d) := by
    refine (StableHlo.unary_result main_v0 main_v1 _ _ _ (V1 m d)).trans ?_
    exact congrArg cutRows (V1_o m d)
  rw [hr]
  iintro ⟨Hx, Hn, Ho, Hr⟩
  isplitl [Hx]; · iexact Hx
  isplitl [Hn]; · iexact Hn
  isplitl [Hr]; · iexact Hr
  iexact Ho

/-- What the call is given: the input and the result array. -/
theorem st0_eq (d : Dev nD) : (bigSep Finset.univ fun c : Fin ((K (F := F)).nCore 0) => (P m).st 0 d c) = iprop(xPts m d ∗ oPts d (m (oLoc d))) :=
  bigSep_univ_of_subsingleton (0 : Fin 1)
/-- What the call gives back: the input as it was, the result array at the kernel's value. -/
theorem dn0_eq (d : Dev nD) : (bigSep Finset.univ fun c : Fin ((K (F := F)).nCore 0) => (P m).dn 0 d c) = iprop(xPts m d ∗ oPts d (outBuf m d)) :=
  bigSep_univ_of_subsingleton (0 : Fin 1)

/-- The program on a device's TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hn, Ho, Hr⟩, Hts, -⟩, -⟩
  iapply ((K (F := F)).wp_run (D (F := F)) 𝒱 (EH := EH) (P := P m) κ d 0) $$ [Hst Hx Hn Ho Hr Hb Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  iapply (wp_hlo_within 𝒱 (SparseCore.T d) none Set.univ (op := opCut) (S := arrs)
    (show ({o', r'} : Finset (DevRef τ sig)) ⊆ arrs by decide) (V := V1 m d)) $$ [Hb Hx Hn Ho Hr]
  · isplitl [Hb]; · iexact Hb
    rw [held_arrs, V1_x, V1_n, V1_o, V1_r]
    isplitl [Hx]; · iexact Hx
    isplitl [Hn]; · iexact Hn
    isplitl [Ho]; · iexact Ho
    iexact Hr
  iintro ⟨Hb, Hheld⟩
  ihave Hh := (held_after (F := F) m d) $$ Hheld
  icases Hh with ⟨Hx, Hn, Hr, -⟩
  rw [wp_ret]; imodintro; imodintro
  isplitl [Hst]; · iexact Hst
  isplitr [Hb Hts]
  · isplitl [Hx]; · iexact Hx
    isplitl [Hn]; · iexact Hn
    iexact Hr
  isplitl [Hb] <;> iassumption

/-- The same, of the memory at the end. -/
def fq (d : Dev nD) (s' : Phys nD τ sig (Elt F)) : Prop :=
  s'.mem.mem (xLoc d) = m (xLoc d) ∧ s'.mem.mem (nLoc d) = m (nLoc d) ∧ s'.mem.mem (rLoc d) = cutRows (outBuf m d)

omit [FloatOps F] m ρ in
/-- A whole array held at `f` is at `f` in the memory. -/
theorem mem_eq (s' : Phys nD τ sig (Elt F)) (ℓ : Loc nD τ sig) (f : Buf (Elt F) ℓ) :
    iprop(SI s' ∗ ℓ ↦{fullShare} f) ⊢ (iprop(⌜s'.mem.mem ℓ = f⌝ ∗ SI s' ∗ ℓ ↦{fullShare} f) : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h, HSI, H⟩
  isplitr
  · ipureintro; exact funext fun i => h i (Finset.mem_univ i)
  · isplitl [HSI] <;> iassumption

/-- What the program leaves, read of the memory at the end. -/
theorem hfin (d : Dev nD) (s' : Phys nD τ sig (Elt F)) : iprop(FIN m d ∗ SI s') ⊢ (⌜fq m d s'⌝ : sProp 𝕄) := by
  iintro ⟨⟨Hx, Hn, Hr⟩, HSI⟩
  ihave H := (mem_eq s' (xLoc d) (m (xLoc d))) $$ [HSI Hx]; · isplitl [HSI] <;> iassumption
  icases H with ⟨%h1, HSI, -⟩
  ihave H := (mem_eq s' (nLoc d) (m (nLoc d))) $$ [HSI Hn]; · isplitl [HSI] <;> iassumption
  icases H with ⟨%h2, HSI, -⟩
  ihave H := (mem_eq s' (rLoc d) (cutRows (outBuf m d))) $$ [HSI Hr]; · isplitl [HSI] <;> iassumption
  icases H with ⟨%h3, -, -⟩
  ipureintro; exact ⟨h1, h2, h3⟩

/-! ## The run -/

/-- What every execution of the program ends with: the arguments as they were, the result the first 162 rows of the pooled rows of the
    input, every semaphore counter at zero. -/
def QC : PUnit × MemSt nD τ sig (Elt F) → Prop := fun r =>
  (∀ c : Dev nD, r.2.mem (xLoc c) = m (xLoc c) ∧ r.2.mem (nLoc c) = m (nLoc c) ∧ r.2.mem (rLoc c) = cutRows (outBuf m c)) ∧ r.2.sem = fun _ => 0

/-- Every execution of the program, from any memory and for any float values, ends as `QC` says. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Hex

end
-- ==== Proof.WindowMax.lean ====
/-
  The kernel's pooled rows over a linear order with a least element: row `k` is the greatest of rows `min (k + j) 161` for `j < 7`,
  started at the least element, whatever tree of maxima computes it.
-/
module

public import proofs.«01_k».proof.Proof.Pool
public import Idealize.ShloMosaic.PureOps.Reduce

@[expose] public section

noncomputable section

namespace Cert.Proof.Hex

variable {α : Type} [LinearOrder α] (r : ℕ → α)

/-- A suffix maximum is at most `c` exactly when every row of the suffix is. -/
theorem sufMax_le (c : α) : ∀ j, j ≤ 161 → (sufMax max r j ≤ c ↔ ∀ i, 161 - j ≤ i → i ≤ 161 → r i ≤ c)
  | 0, _ => by
    constructor
    · intro h i h1 h2
      obtain rfl : i = 161 := by omega
      exact h
    · exact fun h => h 161 (by omega) (by omega)
  | j + 1, hj => by
    rw [sufMax, max_le_iff, sufMax_le c j (by omega)]
    constructor
    · rintro ⟨h0, h⟩ i h1 h2
      by_cases e : i = 160 - j
      · rw [e]; exact h0
      · exact h i (by omega) h2
    · exact fun h => ⟨h _ (by omega) (by omega), fun i h1 h2 => h i (by omega) h2⟩

/-- A window's maximum is at most `c` exactly when its seven rows are. -/
theorem winMax_le (c : α) (k : ℕ) : winMax max r k ≤ c ↔ ∀ j < 7, r (k + j) ≤ c := by
  simp only [winMax, max_le_iff]
  constructor
  · rintro ⟨⟨⟨h0, h1⟩, h2, h3⟩, ⟨-, h4⟩, h5, h6⟩ j hj
    match j, hj with
    | 0, _ => exact h0
    | 1, _ => exact h1
    | 2, _ => exact h2
    | 3, _ => exact h3
    | 4, _ => exact h4
    | 5, _ => exact h5
    | 6, _ => exact h6
  · exact fun h => ⟨⟨⟨h 0 (by omega), h 1 (by omega)⟩, h 2 (by omega), h 3 (by omega)⟩,
      ⟨h 3 (by omega), h 4 (by omega)⟩, h 5 (by omega), h 6 (by omega)⟩

/-- A pooled row is at most `c` exactly when its neighbourhood's rows are. -/
theorem pooled_le (c : α) {k : ℕ} (hk : k < 162) : pooled max r k ≤ c ↔ ∀ j < 7, r (min (k + j) 161) ≤ c := by
  unfold pooled
  split_ifs with h
  · rw [winMax_le]
    exact forall₂_congr fun j hj => by rw [show min (k + j) 161 = k + j by omega]
  · rw [sufMax_le r c _ (by omega)]
    constructor
    · exact fun H j _ => H _ (by omega) (by omega)
    · intro H i h1 h2
      have := H (i - k) (by omega)
      rwa [show min (k + (i - k)) 161 = i by omega] at this

/-- Row `k` of the result is the fold of the maximum over the seven rows of its neighbourhood, from the least element. -/
theorem pooled_eq_fold [OrderBot α] {k : ℕ} (hk : k < 162) :
    pooled max r k = (Finset.univ : Finset (Fin 7)).fold max ⊥ fun j => r (min (k + j.val) 161) := by
  refine eq_of_forall_ge_iff fun c => ?_
  rw [pooled_le r c hk, Finset.fold_max_le]
  exact ⟨fun h => ⟨bot_le, fun j _ => h j.val j.isLt⟩, fun h j hj => h.2 ⟨j, hj⟩ (Finset.mem_univ _)⟩

end Cert.Proof.Hex

end
-- ==== Proof.RefSide.lean ====
/-
  The reference, read index by index: where the neighbour table is the printed one (row `i` lists `min (i + j) 161`), the gather takes
  rows `min (i + j) 161` of the input, and the maximum over the seven is the kernel's pooled row.
-/
module

public import proofs.«01_k».proof.Defs
public import proofs.«01_k».proof.Proof.Launch
public import proofs.«01_k».proof.Proof.WindowMax
public import proofs.«01_k».proof.Proof.Gen.ReferenceIdeal
public import proofs.«01_k».proof.Proof.Gen.ReferenceIdeal.Run
public import proofs.«01_k».proof.Proof.Gen.Pre_window
public import Idealize.ShloMosaic.Lib.ReduceAll
public import Idealize.ShloMosaic.Lib.ValueIdxCore
public import Idealize.ShloMosaic.PureOps.Ideal.Laws

@[expose] public section

noncomputable section

namespace Cert.Proof.Hex.Ref

open Cert.ReferenceIdeal Cert.ReferenceIdeal.Gen
open Idealize.ShloMosaic Idealize.ShloMosaic.ValueIdx

/-! ## The neighbour table -/

/-- A word of row `i` and column `j` of the printed table: a small non-negative number. -/
theorem table_word (i j : ℕ) (hi : i < 162) (hj : j < 7) :
    IntOp.minsi (BitVec.ofNat 32 i + BitVec.ofNat 32 j) 161#32 = BitVec.ofNat 32 (min (i + j) 161) := by
  rw [← BitVec.ofNat_add]
  unfold IntOp.minsi
  have e : (BitVec.ofNat 32 (i + j)).slt 161#32 = decide (i + j < 161) := by
    rw [BitVec.slt_eq_decide, BitVec.toInt_ofNat', Int.bmod_def]
    exact decide_eq_decide.2 (by simp; omega)
  rw [e]
  by_cases h : i + j < 161
  · rw [if_pos (decide_eq_true h), show min (i + j) 161 = i + j by omega]
  · rw [if_neg (by simpa using h), show min (i + j) 161 = 161 by omega]

/-- The printed precondition says what every word of the neighbour table is. -/
theorem table_reads (x : FVec Ideal Cert.Pre_window.S642x2048 .f32) (nb : IVec Cert.Pre_window.S162x7 32)
    (h : Cert.Pre_window.fn (F := Ideal) x nb = fun _ => 1#1) (i : Fin 162) (j : Fin 7) :
    nb (ix2 i j) = BitVec.ofNat 32 (min (i.val + j.val) 161) := by
  have h0 := congrFun h (fun a => a.elim0)
  haveI : Subsingleton Cert.Pre_window.S_.Idx := ⟨fun a b => funext fun k => k.elim0⟩
  have h1 := Host.reduce_andi_all _ _ _ _ _ h0 (ix2 i j)
  have h2 := IntOp.cmpi_eq.1 h1
  exact h2.trans (table_word i.val j.val i.isLt j.isLt)

/-! ## The gather -/

abbrev gd : GatherDims S162x2048 S162x7x1 S162x7x2048 := gather_S162x2048_S162x7x1_S162x7x2048_2_0_n_n_0_2_12048

/-- The gather's element: the operand's at the listed row (signed, cut to the operand) and the same column. -/
theorem gather_reads {α : Type} (x : S162x2048.Idx → α) (idx : IVec S162x7x1 32) (i : Fin 162) (j : Fin 7) (c : Fin 2048) (n : Fin 162)
    (hn : idx (ix3 i j 0) = BitVec.ofNat 32 n.val) : Host.gather gd x idx (ix3 i j c) = x (ix2 n c) := by
  refine congrArg x (funext fun a => Fin.ext ?_)
  show gd.start (ix3 i j c) idx a + gd.batchCoord (ix3 i j c) a + gd.offCoord (ix3 i j c) a = (ix2 n c a).val
  rw [gd.batchCoord_eq_zero _ _ List.not_mem_nil]
  have ha : a = (0 : Fin 2) ∨ a = (1 : Fin 2) := by
    match a with
    | ⟨0, _⟩ => exact Or.inl rfl
    | ⟨1, _⟩ => exact Or.inr rfl
  rcases ha with rfl | rfl
  · rw [gd.offCoord_eq_zero _ (0 : Fin 2) (by decide)]
    have hs : gd.siIdx (ix3 i j c) ⟨List.idxOf (0 : Fin 2) gd.startIndexMap, by decide⟩ = ix3 i j 0 := by
      funext b
      match b with
      | ⟨0, _⟩ => rfl
      | ⟨1, _⟩ => rfl
      | ⟨2, _⟩ => rfl
    unfold GatherDims.start
    rw [dif_pos (show (0 : Fin 2) ∈ gd.startIndexMap by decide), hs, hn]
    show min (BitVec.ofNat 32 n.val).toInt.toNat (162 - 1) + 0 + 0 = n.val
    have := n.isLt
    rw [BitVec.toInt_ofNat', Int.bmod_def]
    simp; omega
  · unfold GatherDims.start
    rw [dif_neg (show (1 : Fin 2) ∉ gd.startIndexMap by decide)]
    unfold GatherDims.offCoord
    rw [dif_pos (show (1 : Fin 2) ∈ gd.sKept by decide)]
    simp only [Nat.zero_add]
    rfl

/-! ## The reference's result -/

/-- The reference's composed term of its two arguments. -/
abbrev term (x : FVec Ideal S642x2048 .f32) (nb : IVec S162x7 32) : FVec Ideal S162x2048 .f32 :=
  Host.reduce FloatOps.maximumf (Host.gather gd (extractStridedSlice S162x2048 ![0, 0] x slices_S642x2048_S162x2048_0_0)
    (broadcastInDim S162x7x1 ![0, 1] bcast_S162x7_S162x7x1_0_1
      (select (cmpi .slt nb (broadcastInDim S162x7 ![] bcast_S_S162x7 (constantI S_ 32 0#32)))
        (addi nb (broadcastInDim S162x7 ![] bcast_S_S162x7 (constantI S_ 32 162#32))) nb)))
    (constant S_ .f32 0xFF800000#32) reducesTo_S162x7x2048_S162x2048_d1 h_S_

/-- A table word that is not negative is taken as it is. -/
theorem wrapped (i j : ℕ) (hj : min (i + j) 161 < 2 ^ 31) (w : BitVec 32) (h : w = BitVec.ofNat 32 (min (i + j) 161)) (v : BitVec 32) :
    Scalar.select (IntOp.cmpi .slt w 0#32) v w = BitVec.ofNat 32 (min (i + j) 161) := by
  subst h
  have : IntOp.cmpi .slt (BitVec.ofNat 32 (min (i + j) 161)) 0#32 ≠ 1#1 := by
    rw [Ne, IntOp.cmpi_slt, BitVec.toInt_ofNat', Int.bmod_def]
    simp; omega
  unfold Scalar.select
  exact if_neg this

/-- Where the table is the printed one, the reference's result is the first 162 rows of what the kernel leaves. -/
theorem term_eq (x : FVec Ideal S642x2048 .f32) (nb : IVec S162x7 32)
    (h : Cert.Pre_window.fn (F := Ideal) x nb = fun _ => 1#1) : term x nb = cutRows (F := Ideal) (kernelOut (F := Ideal) x) := by
  funext y
  obtain ⟨i, c, rfl⟩ : ∃ i c, y = ix2 (n0 := 162) (n1 := 2048) i c := ⟨y 0, y 1, eq_ix2 y⟩
  have hr : S162x7x2048.Reduces [1] S162x2048 := by decide
  unfold term
  rw [Host.reduce_eq_fold_single _ _ _ reducesTo_S162x7x2048_S162x2048_d1 hr]
  have hk : cutRows (F := Ideal) (kernelOut (F := Ideal) x) (ix2 i c)
      = pooled (max : EReal → EReal → EReal) (fun n => x (inIx n c.val)) i.val := by
    show pooled (max : EReal → EReal → EReal) (fun n => x (inIx n (0 + c.val))) (0 + i.val) = _
    rw [Nat.zero_add, Nat.zero_add]
  rw [hk, pooled_eq_fold _ i.isLt]
  have hb : (constant (F := Ideal) S_ .f32 0xFF800000#32) (Shape.Idx.first h_S_) = (⊥ : EReal) := by
    show Ideal.ofBits .f32 0xFF800000#32 = ⊥
    simp [Ideal.ofBits, Ideal.ieee]
  rw [hb]
  refine congrArg (fun f => (Finset.univ : Finset (Fin 7)).fold (max : EReal → EReal → EReal) ⊥ f) (funext fun (j : Fin 7) => ?_)
  have hl : hr.lift (ix2 i c) j = ix3 i j c := by
    funext a
    match a with
    | ⟨0, _⟩ => rfl
    | ⟨1, _⟩ => rfl
    | ⟨2, _⟩ => rfl
  show Host.gather gd _ _ (hr.lift (ix2 i c) j) = _
  rw [hl]
  refine (gather_reads _ _ i j c ⟨min (i.val + j.val) 161, by omega⟩ ?_).trans ?_
  · have hi : ∀ f : IVec S162x7 32, broadcastInDim S162x7x1 ![0, 1] bcast_S162x7_S162x7x1_0_1 f (ix3 i j 0) = f (ix2 i j) := fun f => by
      refine congrArg f (funext fun a => ?_)
      match a with
      | ⟨0, _⟩ => rfl
      | ⟨1, _⟩ => rfl
    refine (hi _).trans ?_
    exact wrapped i.val j.val (by omega) _ (table_reads x nb h i j) _
  · refine congrArg x (funext fun a => Fin.ext ?_)
    have hc := c.isLt
    match a with
    | ⟨0, _⟩ => show 0 + min (i.val + j.val) 161 = min (min (i.val + j.val) 161) 167; omega
    | ⟨1, _⟩ => show 0 + c.val = min c.val 2047; omega

end Cert.Proof.Hex.Ref

end
-- ==== Proof.lean ====
/-
  The certificate: the frames of the kernel, of its idealization and of the reference, and the equality of the idealization's result
  with the reference's over the extended reals where the neighbour table is the printed one. The kernel's run is stated once over any
  float values (Proof/Launch.lean); its value is read against the reference's in Proof/RefSide.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_window
public import proofs.«01_k».proof.Proof.Gen.ReferenceIdeal.Run
public import proofs.«01_k».proof.Proof.Launch
public import proofs.«01_k».proof.Proof.RefSide
public import Idealize.ShloMosaic.Lib.Quiescent
public import Idealize.ShloMosaic.Adequacy
public import Idealize.ShloMosaic.Init

@[expose] public section

noncomputable section

namespace Cert.Proof

open Idealize.ShloMosaic Idealize.SL.Sem

/-- The kernel, on the chip's floats: every execution ends, its arguments unchanged and every semaphore counter at zero. -/
theorem frame_kernel : Cert.quiescent_Kernel := fun m ρ _ =>
  (θ_run Cert.KernelIdeal.defs _ _).mono (fun _ h => ⟨fun c => ⟨(h.1 c).1, (h.1 c).2.1⟩, h.2⟩) (Hex.run_main (F := Bits) m ρ)

/-- The same of the idealized kernel, over the extended reals. -/
theorem frame_ideal : Cert.quiescent_KernelIdeal := fun m ρ _ =>
  (θ_run Cert.KernelIdeal.defs _ _).mono (fun _ h => ⟨fun c => ⟨(h.1 c).1, (h.1 c).2.1⟩, h.2⟩) (Hex.run_main (F := Ideal) m ρ)

/-- The same of the reference, which has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- Where the neighbour table is the printed one, the idealized kernel and the reference end with equal results. -/
theorem values : Cert.algebraic_KernelIdeal_ReferenceIdeal_pre_window := by
  intro m ρ m' ρ' hpre hargs
  refine ⟨fun c => Hex.cutRows (Hex.outBuf m c), ?_, ?_⟩
  · exact (θ_run Cert.KernelIdeal.defs _ _).mono (fun _ h c => ⟨(h.1 c).2.2, (h.1 c).1, (h.1 c).2.1⟩) (Hex.run_main (F := Ideal) m ρ)
  · refine (θ_run Cert.ReferenceIdeal.defs _ _).mono (fun _ h c => ⟨(h c).1.trans ?_, (h c).2⟩)
      (Cert.ReferenceIdeal.Value.run (F := Ideal) m' ρ')
    rw [(hargs c).1, (hargs c).2]
    exact Hex.Ref.term_eq _ _ (hpre c)

/-- Everything the certificate claims. -/
theorem claim : Cert.Claim := ⟨Cert.Kernel.Gen.facts, Cert.KernelIdeal.Gen.facts, Cert.ReferenceIdeal.Gen.facts, Cert.Pre_window.Gen.facts,
  frame_kernel, frame_ideal, fun m ρ _ => frame_ideal m ρ trivial, frame_reference, fun m ρ _ => frame_reference m ρ trivial, trivial, values⟩

end Cert.Proof

end
